-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 12288]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![12288, 1536]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![96, 1536]⟩ ⟨2, ![1536, 1536]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S96x1536 : Shape := ⟨2, ![96, 1536]⟩
abbrev S1536x1536 : Shape := ⟨2, ![1536, 1536]⟩
abbrev S7x96x1536 : Shape := ⟨3, ![7, 96, 1536]⟩
abbrev S8x96x1536 : Shape := ⟨3, ![8, 96, 1536]⟩
abbrev S7 : Shape := ⟨1, ![7]⟩
abbrev S8 : Shape := ⟨1, ![8]⟩
abbrev S_ : Shape := ⟨0, ![]⟩
abbrev S1x96x1536 : Shape := ⟨3, ![1, 96, 1536]⟩
abbrev S1 : Shape := ⟨1, ![1]⟩

abbrev nBuf : Space → Nat
  | .hbm => 3
  | .vmem => 8
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S96x1536, .f32⟩
  | .local _ .vmem, ⟨0, _⟩ => ⟨S1536x768, .bf16⟩
  | .local _ .vmem, ⟨1, _⟩ => ⟨S768x1536, .bf16⟩
  | .local _ .vmem, ⟨2, _⟩ => ⟨S96x1536, .f32⟩
  | .local _ .vmem, ⟨3, _⟩ => ⟨S1536x1536, .f32⟩
  | .local _ .vmem, ⟨4, _⟩ => ⟨S7x96x1536, .bf16⟩
  | .local _ .vmem, ⟨5, _⟩ => ⟨S7x96x1536, .bf16⟩
  | .local _ .vmem, ⟨6, _⟩ => ⟨S8x96x1536, .bf16⟩
  | .local _ .vmem, ⟨7, _⟩ => ⟨S8x96x1536, .bf16⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_24 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v38 : BitVec 32 := Scalar.addi v2 c7_i32
  let v39 : BitVec 32 := Scalar.subi v38 c0_i32_24
  let c16_i32_25 : BitVec 32 := 16#32
  let c0_i32_26 : BitVec 32 := 0#32
  let v40 : BitVec 1 := Scalar.cmpi .eq c16_i32_25 c0_i32_26
  let c1_i32_27 : BitVec 32 := 1#32
  let v41 : BitVec 32 := Scalar.select v40 c1_i32_27 c16_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c96_i32 : BitVec 32 := 96#32
  let v50 : BitVec 32 := Scalar.muli v49 c96_i32
  let v51 : Index := Scalar.indexCast v50
  let c0_31 : Index := 0#32
  ![v51.toNat, 0]
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_39 : BitVec 32 := 1#32
  let v57 : BitVec 32 := Scalar.muli v24 c1_i32_39
  let v58 : BitVec 32 := Scalar.addi c0_i32_40 v57
  v58.toNat
def k0_off2 (d0 : Dev nD) (c0_i32_45 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v67 : BitVec 32 := Scalar.subi v2 c8_i32
  let v68 : BitVec 32 := Scalar.addi v67 c0_i32_45
  let c16_i32_46 : BitVec 32 := 16#32
  let c0_i32_47 : BitVec 32 := 0#32
  let v69 : BitVec 1 := Scalar.cmpi .eq c16_i32_46 c0_i32_47
  let c1_i32_48 : BitVec 32 := 1#32
  let v70 : BitVec 32 := Scalar.select v69 c1_i32_48 c16_i32_46
  let v71 : BitVec 32 := Scalar.remsi v68 v70
  let c0_i32_50 : BitVec 32 := 0#32
  let v73 : BitVec 1 := Scalar.cmpi .slt v71 c0_i32_50
  let c0_i32_51 : BitVec 32 := 0#32
  let v74 : BitVec 1 := Scalar.cmpi .slt v70 c0_i32_51
  let v75 : BitVec 1 := Scalar.xori v73 v74
  let c0_i32_49 : BitVec 32 := 0#32
  let v72 : BitVec 1 := Scalar.cmpi .ne v71 c0_i32_49
  let v76 : BitVec 1 := Scalar.andi v75 v72
  let v77 : BitVec 32 := Scalar.addi v71 v70
  let v78 : BitVec 32 := Scalar.select v76 v77 v71
  let c96_i32_52 : BitVec 32 := 96#32
  let v79 : BitVec 32 := Scalar.muli v78 c96_i32_52
  let v80 : Index := Scalar.indexCast v79
  let c0_53 : Index := 0#32
  ![v80.toNat, 0]
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_61 : BitVec 32 := 1#32
  let v86 : BitVec 32 := Scalar.muli v13 c1_i32_61
  let v87 : BitVec 32 := Scalar.addi c0_i32_62 v86
  v87.toNat
def k0_dev5 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_124 : BitVec 32 := 1#32
  let v147 : BitVec 32 := Scalar.muli v24 c1_i32_124
  let v148 : BitVec 32 := Scalar.addi c0_i32_125 v147
  v148.toNat
def k0_dev6 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_150 : BitVec 32 := 1#32
  let v180 : BitVec 32 := Scalar.muli v13 c1_i32_150
  let v181 : BitVec 32 := Scalar.addi c0_i32_151 v180
  v181.toNat
def k0_dev7 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_213 : BitVec 32 := 1#32
  let v241 : BitVec 32 := Scalar.muli v24 c1_i32_213
  let v242 : BitVec 32 := Scalar.addi c0_i32_214 v241
  v242.toNat
def k0_dev8 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_239 : BitVec 32 := 1#32
  let v274 : BitVec 32 := Scalar.muli v13 c1_i32_239
  let v275 : BitVec 32 := Scalar.addi c0_i32_240 v274
  v275.toNat
def k0_dev9 (d0 : Dev nD) : Nat :=
  let c0_i32_302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_301 : BitVec 32 := 1#32
  let v335 : BitVec 32 := Scalar.muli v24 c1_i32_301
  let v336 : BitVec 32 := Scalar.addi c0_i32_302 v335
  v336.toNat
def k0_dev10 (d0 : Dev nD) : Nat :=
  let c0_i32_328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_327 : BitVec 32 := 1#32
  let v368 : BitVec 32 := Scalar.muli v13 c1_i32_327
  let v369 : BitVec 32 := Scalar.addi c0_i32_328 v368
  v369.toNat
def k0_dev11 (d0 : Dev nD) : Nat :=
  let c0_i32_390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_389 : BitVec 32 := 1#32
  let v429 : BitVec 32 := Scalar.muli v24 c1_i32_389
  let v430 : BitVec 32 := Scalar.addi c0_i32_390 v429
  v430.toNat
def k0_dev12 (d0 : Dev nD) : Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_415 : BitVec 32 := 1#32
  let v462 : BitVec 32 := Scalar.muli v13 c1_i32_415
  let v463 : BitVec 32 := Scalar.addi c0_i32_416 v462
  v463.toNat
def k0_dev13 (d0 : Dev nD) : Nat :=
  let c0_i32_478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_477 : BitVec 32 := 1#32
  let v523 : BitVec 32 := Scalar.muli v24 c1_i32_477
  let v524 : BitVec 32 := Scalar.addi c0_i32_478 v523
  v524.toNat
def k0_dev14 (d0 : Dev nD) : Nat :=
  let c0_i32_504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_503 : BitVec 32 := 1#32
  let v556 : BitVec 32 := Scalar.muli v13 c1_i32_503
  let v557 : BitVec 32 := Scalar.addi c0_i32_504 v556
  v557.toNat
def k0_dev15 (d0 : Dev nD) : Nat :=
  let c0_i32_566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_565 : BitVec 32 := 1#32
  let v617 : BitVec 32 := Scalar.muli v24 c1_i32_565
  let v618 : BitVec 32 := Scalar.addi c0_i32_566 v617
  v618.toNat
def k0_dev16 (d0 : Dev nD) : Nat :=
  let c0_i32_592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_591 : BitVec 32 := 1#32
  let v650 : BitVec 32 := Scalar.muli v13 c1_i32_591
  let v651 : BitVec 32 := Scalar.addi c0_i32_592 v650
  v651.toNat
def k0_dev17 (d0 : Dev nD) : Nat :=
  let c0_i32_655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_654 : BitVec 32 := 1#32
  let v711 : BitVec 32 := Scalar.muli v13 c1_i32_654
  let v712 : BitVec 32 := Scalar.addi c0_i32_655 v711
  v712.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c96_i32_679 : BitVec 32 := 96#32
  let v735 : BitVec 32 := Scalar.muli v2 c96_i32_679
  let v736 : Index := Scalar.indexCast v735
  let c0_680 : Index := 0#32
  ![v736.toNat, 0]
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x12288 : Shape := ⟨2, ![1536, 12288]⟩
abbrev S12288x1536 : Shape := ⟨2, ![12288, 1536]⟩
abbrev S1536x1536 : Shape := ⟨2, ![1536, 1536]⟩

abbrev nBuf : Space → Nat
  | .hbm => 7
  | .vmem => 0
  | .smem => 0
  | _ => 0

abbrev bufTy : (tb : Table) → Fin (tcTables nBuf tb) → BufTy
  | .hbm, ⟨0, _⟩ => ⟨S1536x12288, .bf16⟩
  | .hbm, ⟨1, _⟩ => ⟨S12288x1536, .bf16⟩
  | .hbm, ⟨2, _⟩ => ⟨S1536x12288, .f32⟩
  | .hbm, ⟨3, _⟩ => ⟨S12288x1536, .f32⟩
  | .hbm, ⟨4, _⟩ => ⟨S1536x1536, .f32⟩
  | .hbm, ⟨5, _⟩ => ⟨S1536x1536, .bf16⟩
  | .hbm, ⟨6, _⟩ => ⟨S1536x1536, .f32⟩
  | _, _ => ⟨S1536x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Ring.lean ====
/-
The ring of sixteen devices and the channels its transfers run on.

A device sends to the device after it (`nxt`) seven times and to the device before it (`prv`) eight times. Each of
these fifteen transfers has a slot of its own in the sending buffer, a slot of its own in the receiving buffer, and two
semaphores of its own: a CHANNEL. This module names the channels, their slots, their semaphores, and the closed forms
of the device numbers and of the row offsets the kernel computes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.RS

open Cert.KernelIdeal Cert.KernelIdeal.Gen
open Idealize.ShloMosaic
open Idealize.ShloMosaic.TcCoe
open Idealize.SL Idealize.SL.Sem

/-! ## Neighbours -/

set_option backward.proofsInPublic true in
/-- The device after `c`. -/
def nxt (c : Dev nD) : Dev nD := ⟨(c.val + 1) % 16, Nat.mod_lt _ (by decide)⟩
set_option backward.proofsInPublic true in
/-- The device before `c`. -/
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

/-- Going to the next device, as a permutation. -/
def ring : Dev nD ≃ Dev nD := ⟨nxt, prv, prv_nxt, nxt_prv⟩

/-! ## Channels -/

/-- `inl t`: the `t`-th transfer forward (to `nxt`); `inr t`: the `t`-th backward (to `prv`). -/
abbrev Ch : Type := Fin 7 ⊕ Fin 8

/-- The channels in the order the kernel starts their transfers. -/
abbrev chans : List Ch :=
  [.inl 0, .inr 0, .inl 1, .inr 1, .inl 2, .inr 2, .inl 3, .inr 3, .inl 4, .inr 4, .inl 5, .inr 5, .inl 6, .inr 6, .inr 7]

theorem chans_nodup : chans.Nodup := by decide
theorem chans_univ : (Finset.univ : Finset Ch) = chans.toFinset := by decide

/-- The round a channel's transfer happens in. -/
def rnd : Ch → ℕ
  | .inl t => t.val
  | .inr t => t.val

/-- The device a channel's transfer from `c` lands on; and the one a channel's transfer to `c` comes from. -/
def tgt (c : Dev nD) : Ch → Dev nD
  | .inl _ => nxt c
  | .inr _ => prv c
def org (c : Dev nD) : Ch → Dev nD
  | .inl _ => prv c
  | .inr _ => nxt c

theorem org_tgt (c : Dev nD) (ch : Ch) : org (tgt c ch) ch = c := by
  cases ch with
  | inl t => exact prv_nxt c
  | inr t => exact nxt_prv c
theorem tgt_org (c : Dev nD) (ch : Ch) : tgt (org c ch) ch = c := by
  cases ch with
  | inl t => exact nxt_prv c
  | inr t => exact prv_nxt c

/-- A channel's destination, as a permutation of the devices. -/
def tgtEquiv (ch : Ch) : Dev nD ≃ Dev nD := ⟨fun c => tgt c ch, fun c => org c ch, fun c => org_tgt c ch, fun c => tgt_org c ch⟩

/-! ## Slots -/

/-- Slot `t` of a buffer of `n` blocks of 96 rows. -/
abbrev slotRect (n : ℕ) (t : ℕ) (inb : ∀ a, (![t, 0, 0] : Fin 3 → ℕ) a + S1x96x1536.size a ≤ (⟨3, ![n, 96, 1536]⟩ : Shape).size a) :
    Rect ⟨3, ![n, 96, 1536]⟩ := Rect.unit (s := ⟨3, ![n, 96, 1536]⟩) ![t, 0, 0] S1x96x1536.size inb

theorem slot_inb {n t : ℕ} (h : t < n) : ∀ a, (![t, 0, 0] : Fin 3 → ℕ) a + S1x96x1536.size a ≤ (⟨3, ![n, 96, 1536]⟩ : Shape).size a := fun a => by
  match a with
  | ⟨0, _⟩ => exact h
  | ⟨1, _⟩ => exact le_refl _
  | ⟨2, _⟩ => exact le_refl _

/-- The slot as a buffer of 96 rows. -/
abbrev slot {n : ℕ} (M : Memref sig .tc .vmem ⟨3, ![n, 96, 1536]⟩ .bf16) (t : ℕ)
    (inb : ∀ a, (![t, 0, 0] : Fin 3 → ℕ) a + S1x96x1536.size a ≤ (⟨3, ![n, 96, 1536]⟩ : Shape).size a) : Memref sig .tc .vmem S96x1536 .bf16 :=
  (M.slice (slotRect n t inb) (fun _ => rfl)).squeeze S96x1536 squeezes_S1x96x1536_S96x1536

/-- The four buffers: what is sent and what is received, forward and backward. -/
abbrev fsM : Memref sig .tc .vmem S7x96x1536 .bf16 := Memref.whole cc0_scratch1
abbrev frM : Memref sig .tc .vmem S7x96x1536 .bf16 := Memref.whole cc0_scratch2
abbrev bsM : Memref sig .tc .vmem S8x96x1536 .bf16 := Memref.whole cc0_scratch3
abbrev brM : Memref sig .tc .vmem S8x96x1536 .bf16 := Memref.whole cc0_scratch4
/-- The buffer the local product lies in, the two operands', and the result's. -/
abbrev pM : Memref sig .tc .vmem S1536x1536 .f32 := Memref.whole cc0_scratch0
abbrev aM : Memref sig .tc .vmem S1536x768 .bf16 := Memref.whole cc0_stg0_0
abbrev bM : Memref sig .tc .vmem S768x1536 .bf16 := Memref.whole cc0_stg1_0
abbrev oM : Memref sig .tc .vmem S96x1536 .f32 := Memref.whole cc0_stg2_0

/-- A channel's slot on the sending device, and on the receiving one. -/
def src : Ch → Memref sig .tc .vmem S96x1536 .bf16
  | .inl t => slot fsM t.val (slot_inb t.isLt)
  | .inr t => slot bsM t.val (slot_inb t.isLt)
def dst : Ch → Memref sig .tc .vmem S96x1536 .bf16
  | .inl t => slot frM t.val (slot_inb t.isLt)
  | .inr t => slot brM t.val (slot_inb t.isLt)

/-! ## Semaphores -/

theorem sem_inb {n t : ℕ} (h : t < n) : ∀ a, (![t] : Fin 1 → ℕ) a + S1.size a ≤ (⟨1, ![n]⟩ : Shape).size a := fun a => by
  match a with
  | ⟨0, _⟩ => exact h

/-- Semaphore `t` of an array of `n`. -/
abbrev semAt {n : ℕ} (A : DmaSems sig ⟨1, ![n]⟩) (t : ℕ) (inb : ∀ a, (![t] : Fin 1 → ℕ) a + S1.size a ≤ (⟨1, ![n]⟩ : Shape).size a) : DmaSem sig :=
  ((A.slice (Rect.unit (s := ⟨1, ![n]⟩) ![t] S1.size inb)).squeeze S_ squeezes_S1_S_).sem

/-- The semaphore a channel's sender waits on, and the one its receiver waits on. -/
def sS : Ch → DmaSem sig
  | .inl t => semAt (n := 7) cc0_scratch5 t.val (sem_inb t.isLt)
  | .inr t => semAt (n := 8) cc0_scratch7 t.val (sem_inb t.isLt)
def rS : Ch → DmaSem sig
  | .inl t => semAt (n := 7) cc0_scratch6 t.val (sem_inb t.isLt)
  | .inr t => semAt (n := 8) cc0_scratch8 t.val (sem_inb t.isLt)

theorem sS_val : ∀ ch : Ch, (sS ch).val = (match ch with | .inl t => 3 + t.val | .inr t => 17 + t.val) := by decide +kernel
theorem rS_val : ∀ ch : Ch, (rS ch).val = (match ch with | .inl t => 10 + t.val | .inr t => 25 + t.val) := by decide +kernel

/-- The runtime's barrier semaphore. -/
abbrev barS : Sem sig := (SemArray.scalar (sig.barrier 0 rfl) : Sems sig S_).sem

/-! ## Cells -/

/-- Which semaphore of a device: the barrier's (`none`), a channel's sending one (`(ch, false)`) or receiving one
    (`(ch, true)`). -/
abbrev Cx : Type := Option (Ch × Bool)

/-- A channel's two semaphores. -/
def osem : Ch × Bool → SemLoc sig
  | (ch, false) => .dma (sS ch)
  | (ch, true) => .dma (rS ch)
def csem : Cx → SemLoc sig
  | none => .reg barS
  | some k => osem k

/-- The channel and the side a DMA semaphore belongs to. -/
def dmaIx (q : ℕ) : Option (Ch × Bool) :=
  if q < 3 then none
  else if h : q - 3 < 7 then some (.inl ⟨q - 3, h⟩, false)
  else if h : q - 10 < 7 then some (.inl ⟨q - 10, h⟩, true)
  else if h : q - 17 < 8 then some (.inr ⟨q - 17, h⟩, false)
  else if h : q - 25 < 8 then some (.inr ⟨q - 25, h⟩, true)
  else none

theorem dmaIx_sS (ch : Ch) : dmaIx (sS ch).val = some (ch, false) := by rw [sS_val]; revert ch; decide
theorem dmaIx_rS (ch : Ch) : dmaIx (rS ch).val = some (ch, true) := by rw [rS_val]; revert ch; decide

/-- Which of the ring's semaphores a semaphore is. -/
def semIx : SemLoc sig → Option Cx
  | .reg s => if s = barS then some none else none
  | .dma q => (dmaIx q.val).map some

theorem semIx_csem (x : Cx) : semIx (csem x) = some x := by
  rcases x with _ | ⟨ch, _ | _⟩
  · simp only [csem, semIx, if_true]
  · show (dmaIx (sS ch).val).map some = _; rw [dmaIx_sS]; rfl
  · show (dmaIx (rS ch).val).map some = _; rw [dmaIx_rS]; rfl

theorem csem_inj {x y : Cx} (h : csem x = csem y) : x = y :=
  Option.some.inj (by rw [← semIx_csem x, ← semIx_csem y, h])

/-- Device `c`'s cell `x`. -/
abbrev cell (c : Dev nD) (x : Cx) : GSem nD τ sig := ((c : Thread nD τ), csem x)
abbrev barCell (c : Dev nD) : GSem nD τ sig := cell c none
abbrev sCell (c : Dev nD) (ch : Ch) : GSem nD τ sig := cell c (some (ch, false))
abbrev rCell (c : Dev nD) (ch : Ch) : GSem nD τ sig := cell c (some (ch, true))

/-- A device and one of its cells name one cell of the machine. -/
def kcell (p : Dev nD × Cx) : GSem nD τ sig := cell p.1 p.2
theorem kcell_inj : Function.Injective kcell := fun p q h => by
  have h1 : p.1 = q.1 := congrArg (fun g : GSem nD τ sig => g.1.1) h
  have h2 : csem p.2 = csem q.2 := congrArg Prod.snd h
  exact Prod.ext h1 (csem_inj h2)

/-- What one transfer pays a semaphore: the block's credit. -/
abbrev N : ℕ := (src (.inl 0)).view.dmaCredit
theorem N_src : ∀ ch : Ch, (src ch).view.dmaCredit = N := fun ch => by cases ch <;> rfl
theorem N_dst : ∀ ch : Ch, (dst ch).view.dmaCredit = N := fun ch => by cases ch <;> rfl
theorem N_pos : 0 < N := View.dmaCredit_pos _ (by decide)

/-! ## The device numbers and row offsets the kernel computes -/

set_option backward.proofsInPublic true in
/-- `k` devices further round the ring. -/
def shift (c : Dev nD) (k : ℕ) : Dev nD := ⟨(c.val + k) % 16, Nat.mod_lt _ (by decide)⟩

/-- The block of rows a device adds in on a channel: forward it is the block of the device `7 - t` further on,
    backward of the one `8 + t` further on. -/
def blk (c : Dev nD) : Ch → Dev nD
  | .inl t => shift c (7 - t.val)
  | .inr t => shift c (8 + t.val)

theorem off1_eq : ∀ (c : Dev nD) (t : Fin 7), k0_off1 c (BitVec.ofNat 32 t.val) = ![96 * (shift c (7 - t.val)).val, 0] := by decide +kernel
theorem off2_eq : ∀ (c : Dev nD) (t : Fin 8), k0_off2 c (BitVec.ofNat 32 t.val) = ![96 * (shift c (8 + t.val)).val, 0] := by decide +kernel

theorem dev1_eq : ∀ c : Dev nD, k0_dev1 c = (prv c).val := by decide +kernel
theorem dev2_eq : ∀ c : Dev nD, k0_dev2 c = (nxt c).val := by decide +kernel
theorem dev3_eq : ∀ c : Dev nD, k0_dev3 c = (nxt c).val := by decide +kernel
theorem dev4_eq : ∀ c : Dev nD, k0_dev4 c = (prv c).val := by decide +kernel
theorem dev5_eq : ∀ c : Dev nD, k0_dev5 c = (nxt c).val := by decide +kernel
theorem dev6_eq : ∀ c : Dev nD, k0_dev6 c = (prv c).val := by decide +kernel
theorem dev7_eq : ∀ c : Dev nD, k0_dev7 c = (nxt c).val := by decide +kernel
theorem dev8_eq : ∀ c : Dev nD, k0_dev8 c = (prv c).val := by decide +kernel
theorem dev9_eq : ∀ c : Dev nD, k0_dev9 c = (nxt c).val := by decide +kernel
theorem dev10_eq : ∀ c : Dev nD, k0_dev10 c = (prv c).val := by decide +kernel
theorem dev11_eq : ∀ c : Dev nD, k0_dev11 c = (nxt c).val := by decide +kernel
theorem dev12_eq : ∀ c : Dev nD, k0_dev12 c = (prv c).val := by decide +kernel
theorem dev13_eq : ∀ c : Dev nD, k0_dev13 c = (nxt c).val := by decide +kernel
theorem dev14_eq : ∀ c : Dev nD, k0_dev14 c = (prv c).val := by decide +kernel
theorem dev15_eq : ∀ c : Dev nD, k0_dev15 c = (nxt c).val := by decide +kernel
theorem dev16_eq : ∀ c : Dev nD, k0_dev16 c = (prv c).val := by decide +kernel
theorem dev17_eq : ∀ c : Dev nD, k0_dev17 c = (prv c).val := by decide +kernel

end Cert.KernelIdeal.RS

end
-- ==== Proof.Contents.lean ====
/-
What the ring's buffers hold.

Every device starts with a local product `P c`. On a channel's first transfer it sends, rounded, the block of rows
`blk c` of its product; on each later one it sends that block plus what it received on the channel's previous transfer.
This module says that as functions of `P`, and how a slot of a buffer is read and written.
-/
module

public import proofs.«01_k».proof.Proof.Ring
public import Idealize.ShloMosaic.Lib.Pipeline.Value

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The values -/

theorem rows_inb (i : Dev nD) : ∀ a, (![96 * i.val, 0] : Fin 2 → ℕ) a + S96x1536.size a ≤ S1536x1536.size a := fun a => by
  have : i.val < 16 := i.isLt
  match a with
  | ⟨0, _⟩ => show 96 * i.val + 96 ≤ 1536; omega
  | ⟨1, _⟩ => exact le_refl _

/-- The `i`-th block of 96 rows. -/
def rowsAt (v : Vec F S1536x1536 .f32) (i : Dev nD) : Vec F S96x1536 .f32 :=
  fun x => v ((Rect.unit (s := S1536x1536) ![96 * i.val, 0] S96x1536.size (rows_inb i)).emb x)

/-- A block rounded for its first transfer. -/
def first (w : Vec F S96x1536 .f32) : Vec F S96x1536 .bf16 := truncf .bf16 w bitsLt_bf16_f32
/-- A block plus a received one, rounded for the next transfer. -/
def stepped (w : Vec F S96x1536 .f32) (r : Vec F S96x1536 .bf16) : Vec F S96x1536 .bf16 :=
  truncf .bf16 (addf w (extf .f32 r bitsLt_bf16_f32)) bitsLt_bf16_f32
/-- A block plus the two last received ones. -/
def finish (w : Vec F S96x1536 .f32) (r r' : Vec F S96x1536 .bf16) : Vec F S96x1536 .f32 :=
  addf (addf w (extf .f32 r bitsLt_bf16_f32)) (extf .f32 r' bitsLt_bf16_f32)

variable (P : Dev nD → Vec F S1536x1536 .f32)

/-- What device `c` sends on its `t`-th transfer forward. -/
def fsent : ℕ → Dev nD → Vec F S96x1536 .bf16
  | 0, c => first (rowsAt (P c) (shift c 7))
  | t + 1, c => stepped (rowsAt (P c) (shift c (7 - (t + 1)))) (fsent t (prv c))
/-- What device `c` sends on its `t`-th transfer backward. -/
def bsent : ℕ → Dev nD → Vec F S96x1536 .bf16
  | 0, c => first (rowsAt (P c) (shift c 8))
  | t + 1, c => stepped (rowsAt (P c) (shift c (8 + (t + 1)))) (bsent t (nxt c))

/-- What device `c` sends on a channel; and what it receives on one. -/
def sent (c : Dev nD) : Ch → Vec F S96x1536 .bf16
  | .inl t => fsent P t.val c
  | .inr t => bsent P t.val c
def landed (c : Dev nD) (ch : Ch) : Vec F S96x1536 .bf16 := sent P (org c ch) ch

theorem landed_tgt (c : Dev nD) (ch : Ch) : landed P (tgt c ch) ch = sent P c ch := by unfold landed; rw [org_tgt]

/-- The result of device `c`. -/
def outAt (c : Dev nD) : Vec F S96x1536 .f32 := finish (rowsAt (P c) c) (landed P c (.inl 6)) (landed P c (.inr 7))

/-! ## Buffers held at some contents, or at contents named -/

/-- A buffer's elements held, at contents not named. -/
def free (c : Dev nD) {s : Shape} {e : EltTy} (b : Memref sig .tc .vmem s e) : sProp 𝕄 :=
  iprop(∃ f, b.view.loc (c : Thread nD τ) ↦[b.view.set]{fullShare} f)
/-- A buffer's elements held, the buffer reading `X`. -/
abbrev holds (c : Dev nD) {s : Shape} {e : EltTy} (b : Memref sig .tc .vmem s e) (X : s.Idx → Elt F e) : sProp 𝕄 :=
  owns (Ix := Unit) (Name := ℕ) (U := UU) (Lvl := ℕ) (c : Thread nD τ) b fullShare X

omit [FloatOps F] in
instance free_storable (c : Dev nD) {s : Shape} {e : EltTy} (b : Memref sig .tc .vmem s e) :
    BI.Storable (upEmb : UEmb _ 𝕄) (free (F := F) c b) := by unfold free; infer_instance

omit [FloatOps F] in
theorem holds_free (c : Dev nD) {s : Shape} {e : EltTy} (b : Memref sig .tc .vmem s e) (X : s.Idx → Elt F e) : holds c b X ⊢ free (F := F) c b := by
  unfold holds owns free
  iintro ⟨%f, -, H⟩; iexists f; iexact H

/-! ## Slots read and written -/

section Slot

variable {n : ℕ} (M : Memref sig .tc .vmem ⟨3, ![n, 96, 1536]⟩ .bf16) (t : ℕ)
  (inb : ∀ a, (![t, 0, 0] : Fin 3 → ℕ) a + S1x96x1536.size a ≤ (⟨3, ![n, 96, 1536]⟩ : Shape).size a)

omit [FloatOps F] in
theorem slot_set : (slot M t inb).view.set = (M.view.slice (slotRect n t inb)).set := Memref.set_view_squeeze _ _

theorem slot_sub : M.view.setOn (slotRect n t inb).toLoadRect.set ⊆ (slot M t inb).view.set := by
  rw [slot_set, View.set_slice]; exact subset_of_eq rfl
theorem slot_sub' : (M.access (slotRect n t inb)).setOn Finset.univ ⊆ (slot M t inb).view.set := by
  rw [slot_set]; exact subset_of_eq rfl

omit [FloatOps F] in
/-- A load from the slot, its unit axis dropped, is what the slot reads. -/
theorem slot_load (f : M.view.ty.Contents (Elt F)) :
    shapeCast S96x1536 (M.view.readAt (Elt F) (slotRect n t inb).toLoadRect f) shapeCasts_S1x96x1536_S96x1536 = (slot M t inb).view.read (Elt F) f := rfl

omit [FloatOps F] in
/-- A block stored in the slot is what the slot reads. -/
theorem slot_store (f : M.view.ty.Contents (Elt F)) (w : Vec F S96x1536 .bf16) :
    (slot M t inb).view.read (Elt F) ((M.access (slotRect n t inb) : View sig .tc _ _ _).write (Elt F) f
      (shapeCast S1x96x1536 w shapeCasts_S96x1536_S1x96x1536) Finset.univ) = w := by
  rw [← slot_load]
  show shapeCast S96x1536 ((M.view.slice (slotRect n t inb)).read (Elt F) ((M.view.slice (slotRect n t inb)).write (Elt F) f _ _)) _ = w
  rw [View.read_write_univ]
  exact shapeCast_shapeCast _ _ _

/-- Loading from a slot that is held at `X`. -/
theorem wp_load_slot (c : Dev nD) {α : Type} {Q : α → sProp 𝕄} {hl : M.view.LoadsAt (slotRect n t inb).toLoadRect} {k : Vec F S1x96x1536 .bf16 → Prog (TpuEff nD τ sig (Elt F) Λ₀ .tc) α}
    (X : Vec F S96x1536 .bf16) :
    holds c (slot M t inb) X
      ⊢ iprop((∀ v, ⌜shapeCast S96x1536 v shapeCasts_S1x96x1536_S96x1536 = X⌝ -∗ holds c (slot M t inb) X
            -∗ wp frame (wpE (defs₀ (F := F)) 𝒱₀ (c : Thread nD τ) none) Set.univ (k v) Q)
          -∗ wp frame (wpE (defs₀ (F := F)) 𝒱₀ (c : Thread nD τ) none) Set.univ (.op (.load M (slotRect n t inb).toLoadRect hl) k) Q) := by
  unfold holds owns
  iintro ⟨%f, %hf, H⟩ Hk
  iapply (wp_load 𝒱₀ (c : Thread nD τ) none Set.univ (m := M) (S := (slot M t inb).view.set) (slot_sub M t inb)) $$ H
  iintro H
  iapply Hk $$ %_ [] [H]
  · ipureintro; rw [slot_load]; exact hf
  · iexists f; isplitr; · (ipureintro; exact hf)
    iexact H

/-- Loading from a slot whose contents are not named: whatever is read. -/
theorem wp_load_slot_free (c : Dev nD) {α : Type} {Q : α → sProp 𝕄} {hl : M.view.LoadsAt (slotRect n t inb).toLoadRect} {k : Vec F S1x96x1536 .bf16 → Prog (TpuEff nD τ sig (Elt F) Λ₀ .tc) α} :
    free (F := F) c (slot M t inb)
      ⊢ iprop((∀ v, free c (slot M t inb) -∗ wp frame (wpE (defs₀ (F := F)) 𝒱₀ (c : Thread nD τ) none) Set.univ (k v) Q)
          -∗ wp frame (wpE (defs₀ (F := F)) 𝒱₀ (c : Thread nD τ) none) Set.univ (.op (.load M (slotRect n t inb).toLoadRect hl) k) Q) := by
  unfold free
  iintro ⟨%f, H⟩ Hk
  iapply (wp_load 𝒱₀ (c : Thread nD τ) none Set.univ (m := M) (S := (slot M t inb).view.set) (slot_sub M t inb)) $$ H
  iintro H
  iapply Hk $$ %_ [H]
  iexists f; iexact H

/-- Storing a block in a slot. -/
theorem wp_store_slot (c : Dev nD) {α : Type} {Q : α → sProp 𝕄} {hx : (M.access (slotRect n t inb)).Stores Finset.univ}
    {hm : (Finset.univ : Finset (slotRect n t inb).shape.Idx) = Finset.univ ∨ ∀ a, (slotRect n t inb).stride a = 1}
    {k : PUnit → Prog (TpuEff nD τ sig (Elt F) Λ₀ .tc) α} (w : Vec F S96x1536 .bf16) (w' : Vec F S1x96x1536 .bf16)
    (hw : w' = shapeCast S1x96x1536 w shapeCasts_S96x1536_S1x96x1536) :
    free (F := F) c (slot M t inb)
      ⊢ iprop((holds c (slot M t inb) w -∗ wp frame (wpE (defs₀ (F := F)) 𝒱₀ (c : Thread nD τ) none) Set.univ (k ⟨⟩) Q)
          -∗ wp frame (wpE (defs₀ (F := F)) 𝒱₀ (c : Thread nD τ) none) Set.univ (.op (.store M (slotRect n t inb) w' Finset.univ hx hm) k) Q) := by
  subst hw
  unfold free holds owns
  iintro ⟨%f, H⟩ Hk
  iapply (wp_store 𝒱₀ (c : Thread nD τ) none Set.univ (m := M) (r := slotRect n t inb) (Mk := Finset.univ) (S := (slot M t inb).view.set) (slot_sub' M t inb)) $$ H
  iintro H
  iapply Hk
  iexists _; isplitr; · (ipureintro; exact slot_store M t inb f w)
  iexact H

end Slot

/-! ## Rows of the local product read -/

/-- Loading the `i`-th block of rows of the product. -/
theorem wp_load_rows (c : Dev nD) {α : Type} {Q : α → sProp 𝕄} (i : Dev nD) (off : Fin 2 → ℕ) (hoff : off = ![96 * i.val, 0])
    {inb : ∀ a, off a + S96x1536.size a ≤ S1536x1536.size a}
    {hl : pM.view.LoadsAt (Rect.unit (s := S1536x1536) off S96x1536.size inb).toLoadRect}
    {k : Vec F S96x1536 .f32 → Prog (TpuEff nD τ sig (Elt F) Λ₀ .tc) α} (X : Vec F S1536x1536 .f32) :
    holds c pM X
      ⊢ iprop((holds c pM X -∗ wp frame (wpE (defs₀ (F := F)) 𝒱₀ (c : Thread nD τ) none) Set.univ (k (rowsAt X i)) Q)
          -∗ wp frame (wpE (defs₀ (F := F)) 𝒱₀ (c : Thread nD τ) none) Set.univ (.op (.load pM (Rect.unit (s := S1536x1536) off S96x1536.size inb).toLoadRect hl) k) Q) := by
  subst hoff
  unfold holds owns
  iintro ⟨%f, %hf, H⟩ Hk
  iapply (wp_load 𝒱₀ (c : Thread nD τ) none Set.univ (m := pM) (S := pM.view.set) (by
    rw [View.set_whole]; exact Finset.subset_univ _)) $$ H
  iintro H
  rw [show pM.view.readAt (Elt F) (Rect.unit (s := S1536x1536) ![96 * i.val, 0] S96x1536.size inb).toLoadRect f = rowsAt X i from by
    subst hf; rfl]
  iapply Hk
  iexists f; isplitr; · (ipureintro; exact hf)
  iexact H

end Cert.KernelIdeal.RS

end
-- ==== Proof.Schedule.lean ====
/-
Who pays which semaphore, and with what.

A device's barrier cell is paid one unit by each neighbour; a neighbour's unit brings the slots that the device's
transfers to that neighbour land in. A channel's sending cell is paid by the transfer, and gives the slot sent back;
its receiving cell is paid by the transfer that lands, and gives the slot landed in, reading what was sent.
-/
module

public import proofs.«01_k».proof.Proof.Contents

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S1536x1536 .f32)

/-! ## What a unit or a transfer hands over -/

/-- The slots on the next device that `c`'s forward transfers land in. -/
def fwdSlots (c : Dev nD) : sProp 𝕄 := bigSep Finset.univ fun t : Fin 7 => free (nxt c) (dst (.inl t))
/-- The slots on the device before that `c`'s backward transfers land in. -/
def bwdSlots (c : Dev nD) : sProp 𝕄 := bigSep Finset.univ fun t : Fin 8 => free (prv c) (dst (.inr t))

/-- What a cell's duty hands over: to the barrier cell, `true` (paid by the next device) and `false` (paid by the one
    before) the slots there; to a sending cell the slot sent; to a receiving one the slot landed in. -/
def pay (c : Dev nD) (x : Option Cx) (d : Bool) : sProp 𝕄 :=
  match x with
  | none => iprop(emp)
  | some none => if d then fwdSlots c else bwdSlots c
  | some (some (ch, false)) => free c (src ch)
  | some (some (ch, true)) => holds c (dst ch) (landed P c ch)

omit [FloatOps F] in
instance fwdSlots_storable (c : Dev nD) : BI.Storable (upEmb : UEmb _ 𝕄) (fwdSlots (F := F) c) := by unfold fwdSlots; infer_instance
omit [FloatOps F] in
instance bwdSlots_storable (c : Dev nD) : BI.Storable (upEmb : UEmb _ 𝕄) (bwdSlots (F := F) c) := by unfold bwdSlots; infer_instance

instance pay_storable (c : Dev nD) (x : Option Cx) (d : Bool) : BI.Storable (upEmb : UEmb _ 𝕄) (pay P c x d) := by
  unfold pay
  split
  · infer_instance
  · split <;> infer_instance
  · infer_instance
  · infer_instance

/-! ## The schedule -/

/-- Everything happens in round 0. -/
def ringRd : Rounds.Schedule (GSem nD τ sig) Bool 𝕄 where
  duties g r := if r = 0 ∧ g.1.2 = .tc then (match semIx g.2 with | none => ∅ | some none => Finset.univ | some (some _) => {false}) else ∅
  unitless _ := False
  amount g _ _ := match semIx g.2 with | some (some _) => N | _ => 1
  payload g _ d := pay P g.1.1 (semIx g.2) d
  amount_pos g _ _ _ := by
    split
    · exact N_pos
    · exact Nat.one_pos

instance ringRd_payload_storable (g : GSem nD τ sig) (r : ℕ) (d : Bool) :
    BI.Storable (upEmb : UEmb _ 𝕄) ((ringRd P).payload g r d) := pay_storable P _ _ _

section Sched
variable (c : Dev nD) (k : Ch × Bool)

theorem duties_bar : (ringRd P).duties (barCell c) 0 = Finset.univ := by
  dsimp only [ringRd]; rw [if_pos ⟨rfl, rfl⟩, semIx_csem]
theorem duties_ch : (ringRd P).duties (cell c (some k)) 0 = {false} := by
  dsimp only [ringRd]; rw [if_pos ⟨rfl, rfl⟩, semIx_csem]
theorem duties_later (g : GSem nD τ sig) : ∀ r, 1 ≤ r → (ringRd P).duties g r = ∅ := fun r hr => by
  dsimp only [ringRd]; rw [if_neg fun h => by omega]

theorem amount_bar (d : Bool) : (ringRd P).amount (barCell c) 0 d = 1 := by dsimp only [ringRd]; rw [semIx_csem]
theorem amount_ch (d : Bool) : (ringRd P).amount (cell c (some k)) 0 d = N := by dsimp only [ringRd]; rw [semIx_csem]

theorem expect_bar : (ringRd P).expect (barCell c) 0 = 2 := by
  unfold Schedule.expect Schedule.amountOf
  rw [duties_bar, Finset.sum_congr rfl fun d _ => amount_bar P c d, Finset.sum_const, Finset.card_univ, Fintype.card_bool, smul_eq_mul]
theorem expect_ch : (ringRd P).expect (cell c (some k)) 0 = N := by
  unfold Schedule.expect Schedule.amountOf; rw [duties_ch, Finset.sum_singleton, amount_ch]

theorem payload_eq (x : Cx) (d : Bool) : (ringRd P).payload (cell c x) 0 d = pay P c (some x) d := by
  dsimp only [ringRd]; rw [semIx_csem]

/-- All a barrier wait collects. -/
theorem rest_bar : bigSep ((ringRd P).duties (barCell c) 0 \ ∅) (fun d => (ringRd P).payload (barCell c) 0 d) = iprop(bwdSlots c ∗ fwdSlots c) := by
  rw [Finset.sdiff_empty, duties_bar, bigSep_univ_eq_bigSepL [false, true] (by decide) (by decide), bigSepL_cons_cons, bigSepL_singleton,
    payload_eq, payload_eq]
  rfl
/-- All a channel's wait collects. -/
theorem rest_ch : bigSep ((ringRd P).duties (cell c (some k)) 0 \ ∅) (fun d => (ringRd P).payload (cell c (some k)) 0 d) = pay P c (some (some k)) false := by
  rw [Finset.sdiff_empty, duties_ch, bigSep_singleton, payload_eq]

end Sched

/-! ## What a device owes, and the order of the waits -/

/-- What is owed while the transfers on the channels `l` are still to start. -/
def owedL (c : Dev nD) (l : List Ch) : CellTallies nD τ sig Unit := l.foldr (fun ch O => O + tallyAt (rCell (tgt c ch) ch) () N) 0

theorem owedL_cons (c : Dev nD) (ch : Ch) (l : List Ch) : owedL c (ch :: l) = owedL c l + tallyAt (rCell (tgt c ch) ch) () N := rfl

/-- What a device owes at the start: every transfer, a unit to the next device's barrier, a unit to the one before. -/
def O₁ (c : Dev nD) : CellTallies nD τ sig Unit := owedL c chans + tallyAt (barCell (nxt c)) () 1
def O₀ (c : Dev nD) : CellTallies nD τ sig Unit := O₁ c + tallyAt (barCell (prv c)) () 1

def L (g : GSem nD τ sig) : Finset Unit := if g.1.2 = .tc then {()} else ∅
/-- A semaphore's level: the barrier's 1, a receiving one's two more than its round, all others' 0. -/
def lvOf : Option Cx → ℕ
  | some none => 1
  | some (some (ch, true)) => 2 + rnd ch
  | _ => 0
def lv (g : GSem nD τ sig) (_ : Unit) : ℕ := lvOf (semIx g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Cx) (u : Unit) : lv (cell c x) u = lvOf (some x) := by unfold lv; rw [semIx_csem]

theorem owedL_pos {c : Dev nD} {g : GSem nD τ sig} {u : Unit} : ∀ {l : List Ch}, 0 < owedL c l g u → ∃ ch ∈ l, g = rCell (tgt c ch) ch
  | [], h => absurd h (Nat.lt_irrefl 0)
  | ch :: l, h => by
    rcases Pipeline.add_pos_cases h with h | h
    · obtain ⟨ch', h1, h2⟩ := owedL_pos h
      exact ⟨ch', List.mem_cons_of_mem _ h1, h2⟩
    · exact ⟨ch, List.mem_cons_self, (Pipeline.tallyAt_pos h).1⟩

theorem O₀_pos {c : Dev nD} {g : GSem nD τ sig} {u : Unit} (h : 0 < O₀ c g u) :
    (∃ ch, g = rCell (tgt c ch) ch) ∨ (∃ d, g = barCell d) := by
  rcases Pipeline.add_pos_cases h with h | h
  · rcases Pipeline.add_pos_cases h with h | h
    · obtain ⟨ch, -, h⟩ := owedL_pos h; exact .inl ⟨ch, h⟩
    · exact .inr ⟨_, (Pipeline.tallyAt_pos h).1⟩
  · exact .inr ⟨_, (Pipeline.tallyAt_pos h).1⟩

omit [FloatOps F] in
/-- A device may wait on a semaphore while the transfers still to start land on cells of a higher level. -/
theorem mayWait_owedL (c : Dev nD) (x : Cx) (l : List Ch) (h : ∀ ch ∈ l, lvOf (some x) < 2 + rnd ch) :
    (levAts L lv : sProp 𝕄) ⊢ MayWait (c : Thread nD τ) (csem x) () (owedL c l) :=
  Pipeline.mayWait_of_levAts (by rw [L_tc]; exact Finset.mem_singleton_self _) fun g i hg => by
    obtain ⟨ch, hch, rfl⟩ := owedL_pos hg
    refine ⟨by rw [L_tc]; exact Finset.mem_singleton_self _, ?_⟩
    rw [lv_cell, lv_cell]
    exact h ch hch

omit [FloatOps F] in
/-- It may wait on a semaphore that is none of the ring's whatever it owes. -/
theorem mayWait_stage (c : Dev nD) (q : DmaSem sig) (hq : semIx (.dma q) = none) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    have h0 : lv ((c : Thread nD τ), (.dma q : SemLoc sig)) () = 0 := by unfold lv; rw [hq]; rfl
    rcases O₀_pos hg with ⟨ch, rfl⟩ | ⟨d, rfl⟩
    · refine ⟨by rw [L_tc]; exact Finset.mem_singleton_self _, ?_⟩
      rw [h0, lv_cell]; show 0 < 2 + rnd ch; omega
    · refine ⟨by rw [L_tc]; exact Finset.mem_singleton_self _, ?_⟩
      rw [h0, lv_cell]; exact Nat.one_pos
  · rw [MayWait_zero]; iintro -; iempintro

end Cert.KernelIdeal.RS

end
-- ==== Proof.Steps.lean ====
/-
The steps of a device's run, each stated once for every channel.

A device holds its channels in three lists: those whose transfer is still to start (`pend`), those whose transfer is
under way (`fly`), and those it has waited for (`done`). Starting a transfer moves a channel from the first list to the
second; waiting for it moves it to the third.
-/
module

public import proofs.«01_k».proof.Proof.Schedule
public import Idealize.ShloMosaic.Lib.Pipeline.BigSepL

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S1536x1536 .f32)

/-! ## What every device knows -/

/-- Every cell's invariant, under the names `K`, and that every cell has reached round 0. -/
def records (K : Dev nD × Cx → ℕ) : sProp 𝕄 :=
  iprop((bigSep Finset.univ fun p : Dev nD × Cx => cellInv ER (ringRd P) (K p) (kcell p))
    ∗ bigSep Finset.univ fun p : Dev nD × Cx => reached ER (kcell p) 0)

instance records_persistent (K : Dev nD × Cx → ℕ) : BI.Persistent (records P K) := by unfold records; infer_instance

theorem inv_at (K : Dev nD × Cx → ℕ) (c : Dev nD) (x : Cx) : records P K ⊢ cellInv ER (ringRd P) (K (c, x)) (cell c x) := by
  unfold records
  exact sep_elim_left.trans (bigSep_elim (Finset.mem_univ (c, x)))
theorem reached_at (K : Dev nD × Cx → ℕ) (c : Dev nD) (x : Cx) : records P K ⊢ reached ER (cell c x) 0 := by
  unfold records
  exact sep_elim_right.trans (bigSep_elim (Finset.mem_univ (c, x)))

/-! ## A channel before, during and after its transfer -/

/-- Before: both positions, the right to pay the two cells, the credit of what is to land, the two slots. -/
def Pre (c : Dev nD) (ch : Ch) : sProp 𝕄 :=
  iprop(atPos ER (sCell c ch) 0 ∅ 0 ∗ atPos ER (rCell c ch) 0 ∅ 0
    ∗ dutyTok ER (sCell c ch) 0 false ∗ dutyTok ER (rCell (tgt c ch) ch) 0 false
    ∗ cred (tallyAt (rCell c ch) () N) ∗ free c (src ch) ∗ free (tgt c ch) (dst ch))
/-- Under way: both positions, and the credit of both waits. -/
def Fly (c : Dev nD) (ch : Ch) : sProp 𝕄 :=
  iprop(atPos ER (sCell c ch) 0 ∅ 0 ∗ atPos ER (rCell c ch) 0 ∅ 0
    ∗ cred (tallyAt (sCell c ch) () N) ∗ cred (tallyAt (rCell c ch) () N))
/-- After: both positions moved on, the slot sent from, and the slot landed in, reading what was sent. -/
def Done (c : Dev nD) (ch : Ch) : sProp 𝕄 :=
  iprop(atPos ER (sCell c ch) (0 + 1) ∅ 0 ∗ atPos ER (rCell c ch) (0 + 1) ∅ 0
    ∗ free c (src ch) ∗ holds c (dst ch) (landed P c ch))

/-- The state of a device between two steps; `R` is whatever else it holds. -/
def State (K : Dev nD × Cx → ℕ) (c : Dev nD) (R : sProp 𝕄) (pend fly done : List Ch) : sProp 𝕄 :=
  iprop((records P K ∗ levAts L lv) ∗ holds c pM (P c) ∗ (∃ W, owes (c : Thread nD τ) (owedL c pend) W)
    ∗ bigSepL pend (Pre c) ∗ bigSepL fly (Fly c) ∗ bigSepL done (Done P c) ∗ R)

omit [FloatOps F] in
/-- One of a list's resources taken out, to be put back. -/
theorem bigSepL_take {I : Type} (Φ : I → sProp 𝕄) {x : I} : ∀ {l : List I}, x ∈ l → bigSepL l Φ ⊢ iprop(Φ x ∗ (Φ x -∗ bigSepL l Φ))
  | y :: l, h => by
    rw [bigSepL_cons']
    rcases List.mem_cons.mp h with rfl | h
    · iintro ⟨H, Hl⟩
      isplitl [H]; · iexact H
      iintro H; isplitl [H] <;> iassumption
    · iintro ⟨H, Hl⟩
      ihave Hl := (bigSepL_take Φ h) $$ Hl
      icases Hl with ⟨Hx, Hw⟩
      isplitl [Hx]; · iexact Hx
      iintro Hx
      isplitl [H]; · iexact H
      iapply Hw; iexact Hx

variable (K : Dev nD × Cx → ℕ) (c : Dev nD)

/-! ## Starting a transfer -/

set_option maxHeartbeats 400000 in
/-- The transfer on a channel: the slot, reading what is to be sent, goes to the target's slot. -/
theorem wp_send (ch : Ch) (dev : Dev nD) (hdev : dev = tgt c ch)
    {hsc : (dst ch : Memref sig (Dev.tc dev : Thread nD τ).2.kind .vmem S96x1536 .bf16).view.ref.isScScratch = false}
    {hsrc : (src ch).view.WordExact} {hdst : (dst ch).view.WordExact}
    {hsem : DmaTarget.Typed .vmem (.dma (rS ch)) (.remote (Dev.tc dev : Thread nD τ) (dst ch) (.dma (sS ch)) hsc)}
    {α : Type} {Q : α → sProp 𝕄} {k : PUnit → Prog (TpuEff nD τ sig (Elt F) Λ₀ .tc) α} (O : CellTallies nD τ sig Unit) :
    iprop(records P K ∗ holds c (src ch) (sent P c ch) ∗ free (tgt c ch) (dst ch)
        ∗ (∃ W, owes (c : Thread nD τ) (O + tallyAt (rCell (tgt c ch) ch) () N) W)
        ∗ dutyTok ER (sCell c ch) 0 false ∗ dutyTok ER (rCell (tgt c ch) ch) 0 false)
      ⊢ iprop((cred (tallyAt (sCell c ch) () N) -∗ (∃ W, owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src ch) (.remote (Dev.tc dev : Thread nD τ) (dst ch) (.dma (sS ch)) hsc) (.dma (rS ch)) hsrc hdst hsem) k) Q) := by
  subst hdev
  unfold holds owns free
  iintro ⟨#HR, ⟨%fs, %hfs, Hs⟩, ⟨%fd, Hd⟩, ⟨%W, HO⟩, Ht1, Ht2⟩ Hk
  iapply (Rounds.wp_send_pointsTo 𝒱₀ ER (ringRd P) (c : Thread nD τ) none (κ₁ := K (c, some (ch, false))) (κ₂ := K (tgt c ch, some (ch, true)))
    (r₁ := 0) (r₂ := 0) (d₁ := false) (d₂ := false) (fs := fs) (fd := fd) (src := src ch) (dst := dst ch)
    (c' := (tgt c ch : Thread nD τ)) (sS := .dma (sS ch)) (sem := .dma (rS ch))
    (by rw [show ((c : Thread nD τ), (.dma (sS ch) : SemLoc sig)) = sCell c ch from rfl, duties_ch]; exact Finset.mem_singleton_self _)
    (by rw [show ((tgt c ch : Thread nD τ), (.dma (rS ch) : SemLoc sig)) = rCell (tgt c ch) ch from rfl, duties_ch]; exact Finset.mem_singleton_self _)
    () () N (N_dst ch) (amount_ch P c (ch, false) false) (amount_ch P (tgt c ch) (ch, true) false) O rfl (W := W)
    (by
      rw [show ((c : Thread nD τ), (.dma (sS ch) : SemLoc sig)) = sCell c ch from rfl, payload_eq]
      show _ ⊢ free c (src ch)
      unfold free; iintro H; iexists fs; iexact H)
    (by
      rw [show ((tgt c ch : Thread nD τ), (.dma (rS ch) : SemLoc sig)) = rCell (tgt c ch) ch from rfl, payload_eq]
      show _ ⊢ holds (tgt c ch) (dst ch) (landed P (tgt c ch) ch)
      unfold holds owns; rw [landed_tgt, ← hfs]
      iintro H; iexists _; isplitr; rotate_left; · iexact H
      ipureintro; exact View.read_write_univ _ _)) $$ [Hs Hd HO Ht1 Ht2]
  · isplitr; · iapply (inv_at P K c (some (ch, false))); iexact HR
    isplitr; · iapply (inv_at P K (tgt c ch) (some (ch, true))); iexact HR
    isplitl [Hs]; · iexact Hs
    isplitl [Hd]; · iexact Hd
    isplitl [HO]; · iexact HO
    isplitl [Ht1]; · iexact Ht1
    isplitr; · iapply (reached_at P K c (some (ch, false))); iexact HR
    isplitl [Ht2]; · iexact Ht2
    iapply (reached_at P K (tgt c ch) (some (ch, true))); iexact HR
  iintro ⟨Hc, HO⟩
  iapply Hk $$ [Hc] [HO]
  · iexact Hc
  · iexists W; iexact HO

/-! ## Waiting for one -/

/-- A wait on one of a channel's two semaphores, which nothing still owed comes before: its payload. -/
theorem wp_wait_ch (x : Ch × Bool) (q : DmaSem sig) (hq : csem (some x) = .dma q) {sp : Space} {s' : Shape} {e' : EltTy} {m₁ : Memref sig .tc sp s' e'} {m₂ : Memref sig .tc .vmem S96x1536 .bf16}
    (hN : m₂.view.dmaCredit = N) {h₁ : m₁.view.WordExact} {h₂ : m₂.view.WordExact} (pend : List Ch) (hp : ∀ p ∈ pend, lvOf (some (some x)) < 2 + rnd p)
    {α : Type} {Q : α → sProp 𝕄} {k : PUnit → Prog (TpuEff nD τ sig (Elt F) Λ₀ .tc) α} :
    iprop((records P K ∗ levAts L lv) ∗ cred (tallyAt (cell c (some x)) () N) ∗ (∃ W, owes (c : Thread nD τ) (owedL c pend) W) ∗ atPos ER (cell c (some x)) 0 ∅ 0)
      ⊢ iprop((atPos ER (cell c (some x)) (0 + 1) ∅ 0 -∗ pay P c (some (some x)) false -∗ (∃ W, owes (c : Thread nD τ) (owedL c pend) W)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q m₁ m₂ h₁ h₂) k) Q) := by
  iintro ⟨⟨#HR, #Hlev⟩, Hc, ⟨%W, HO⟩, Hat⟩ Hk
  have hcell : ((c : Thread nD τ), (.dma q : SemLoc sig)) = cell c (some x) := by unfold cell; rw [hq]
  iapply (Rounds.wp_wait_rest_token 𝒱₀ ER (ringRd P) (c : Thread nD τ) none (κ := K (c, some x)) (sm := .dma q) (k' := m₂.view.dmaCredit)
      (wpE_waitDma2_eq 𝒱₀ (c : Thread nD τ) none Set.univ) (Set.mem_univ _) () (O := owedL c pend) (W := W) (R := 0) (m := 0) (T := ∅)
      (by rw [Nat.zero_add, hN, hcell, expect_ch])) $$ [Hc HO Hat]
  · rw [hN, hcell, ← hq]
    isplitr; · iapply (inv_at P K c (some x)); iexact HR
    isplitl [Hc]; · iexact Hc
    isplitl [HO]; · iexact HO
    isplitr; · iapply (mayWait_owedL c (some x) pend hp); iexact Hlev
    iexact Hat
  rw [hcell]
  iintro ⟨HO, Hat, -, Hpay⟩
  iapply Hk $$ [Hat] [Hpay] [HO]
  · iexact Hat
  · iapply (Entails.of_eq (rest_ch P c x)); iexact Hpay
  · iexists _; iexact HO

end Cert.KernelIdeal.RS

end
-- ==== Proof.Groups.lean ====
/-
The three moves a device's run is made of: a channel's first transfer, a later transfer, and the waits for a transfer.

Each takes the state of a device to the next one, and is stated for every channel; the run applies them in order.
-/
module

public import proofs.«01_k».proof.Proof.Steps

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {P : Dev nD → Vec F S1536x1536 .f32} {K : Dev nD × Cx → ℕ} {c : Dev nD} {pend fly done : List Ch}

/-- The program from here on. -/
abbrev run (c : Dev nD) {α : Type} (Q : α → sProp 𝕄) (p : Prog (TpuEff nD τ sig (Elt F) Λ₀ .tc) α) : sProp 𝕄 :=
  wp frame (wpE (defs₀ (F := F)) 𝒱₀ (c : Thread nD τ) none) Set.univ p Q

/-- Reading a block of rows of the product changes nothing. -/
theorem read_rows {R : sProp 𝕄} {α : Type} {Q : α → sProp 𝕄} (i : Dev nD) {off : Fin 2 → ℕ} (hoff : off = ![96 * i.val, 0])
    {inb' : ∀ a, off a + S96x1536.size a ≤ S1536x1536.size a}
    {hl' : pM.view.LoadsAt (Rect.unit (s := S1536x1536) off S96x1536.size inb').toLoadRect}
    {k : Vec F S96x1536 .f32 → Prog (TpuEff nD τ sig (Elt F) Λ₀ .tc) α}
    (hcont : State P K c R pend fly done ⊢ run c Q (k (rowsAt (P c) i))) :
    State P K c R pend fly done
      ⊢ run c Q (.op (.load pM (Rect.unit (s := S1536x1536) off S96x1536.size inb').toLoadRect hl') k) := by
  unfold State at hcont ⊢
  iintro ⟨HC, Hp, H⟩
  iapply (wp_load_rows c i off hoff (P c)) $$ Hp
  iintro Hp
  iapply hcont
  isplitl [HC]; · iexact HC
  isplitl [Hp] <;> iassumption

/-- Reading a slot landed in changes nothing. -/
theorem read_landed {R : sProp 𝕄} {α : Type} {Q : α → sProp 𝕄} (ch : Ch) (hch : ch ∈ done) {n t : ℕ} {M : Memref sig .tc .vmem ⟨3, ![n, 96, 1536]⟩ .bf16}
    {inb : ∀ a, (![t, 0, 0] : Fin 3 → ℕ) a + S1x96x1536.size a ≤ (⟨3, ![n, 96, 1536]⟩ : Shape).size a}
    (hM : slot M t inb = dst ch) {hl : M.view.LoadsAt (slotRect n t inb).toLoadRect}
    {k : Vec F S1x96x1536 .bf16 → Prog (TpuEff nD τ sig (Elt F) Λ₀ .tc) α}
    (hcont : ∀ v, shapeCast S96x1536 v shapeCasts_S1x96x1536_S96x1536 = landed P c ch → (State P K c R pend fly done ⊢ run c Q (k v))) :
    State P K c R pend fly done ⊢ run c Q (.op (.load M (slotRect n t inb).toLoadRect hl) k) := by
  unfold State at hcont ⊢
  iintro ⟨HC, Hp, HO, Hpend, Hfly, Hdone, HF⟩
  ihave Hd := (bigSepL_take (Done P c) hch) $$ Hdone
  icases Hd with ⟨HD, Hback⟩
  unfold Done
  icases HD with ⟨H1, H2, H3, H4⟩
  ihave H4 := (Entails.of_eq (congrArg (fun b => holds (F := F) c b (landed P c ch)) hM.symm)) $$ H4
  iapply (wp_load_slot M t inb c (landed P c ch)) $$ H4
  iintro %v %hv H4
  ihave H4 := (Entails.of_eq (congrArg (fun b => holds (F := F) c b (landed P c ch)) hM)) $$ H4
  iapply (hcont v hv)
  isplitl [HC]; · iexact HC
  isplitl [Hp]; · iexact Hp
  isplitl [HO]; · iexact HO
  isplitl [Hpend]; · iexact Hpend
  isplitl [Hfly]; · iexact Hfly
  isplitr [HF]
  · iapply Hback
    isplitl [H1]; · iexact H1
    isplitl [H2]; · iexact H2
    isplitl [H3] <;> iassumption
  iexact HF

/-- Storing a block in a channel's slot and starting its transfer. -/
theorem store_send {R : sProp 𝕄} {α : Type} {Q : α → sProp 𝕄} (ch : Ch) {n t : ℕ} {M : Memref sig .tc .vmem ⟨3, ![n, 96, 1536]⟩ .bf16}
    {inb : ∀ a, (![t, 0, 0] : Fin 3 → ℕ) a + S1x96x1536.size a ≤ (⟨3, ![n, 96, 1536]⟩ : Shape).size a}
    (hM : slot M t inb = src ch) (w' : Vec F S1x96x1536 .bf16)
    (hw : w' = shapeCast S1x96x1536 (sent P c ch) shapeCasts_S96x1536_S1x96x1536)
    {dev : ℕ} {hlt : dev < nD} (hdev : dev = (tgt c ch).val)
    {hl : M.view.LoadsAt (slotRect n t inb).toLoadRect}
    {hx : (M.access (slotRect n t inb)).Stores Finset.univ}
    {hm : (Finset.univ : Finset (slotRect n t inb).shape.Idx) = Finset.univ ∨ ∀ a, (slotRect n t inb).stride a = 1}
    {hsc : (dst ch : Memref sig (Dev.tc (⟨dev, hlt⟩ : Dev nD) : Thread nD τ).2.kind .vmem S96x1536 .bf16).view.ref.isScScratch = false}
    {hsrc : (src ch).view.WordExact} {hdst : (dst ch).view.WordExact}
    {hsem : DmaTarget.Typed .vmem (.dma (rS ch)) (.remote (Dev.tc (⟨dev, hlt⟩ : Dev nD) : Thread nD τ) (dst ch) (.dma (sS ch)) hsc)}
    {k : PUnit → Prog (TpuEff nD τ sig (Elt F) Λ₀ .tc) α}
    (hcont : State P K c R pend (fly ++ [ch]) done ⊢ run c Q (k ⟨⟩)) :
    State P K c R (ch :: pend) fly done
      ⊢ run c Q (.op (.load M (slotRect n t inb).toLoadRect hl) fun _ =>
          .op (.store M (slotRect n t inb) w' Finset.univ hx hm) fun _ =>
          .op (.enqueueDma (src ch) (.remote (Dev.tc (⟨dev, hlt⟩ : Dev nD) : Thread nD τ) (dst ch) (.dma (sS ch)) hsc) (.dma (rS ch)) hsrc hdst hsem) k) := by
  unfold State
  rw [bigSepL_cons', owedL_cons]
  iintro ⟨⟨#HR, #Hlev⟩, Hp, HO, ⟨HPre, Hpend⟩, Hfly, Hdone, HF⟩
  unfold Pre
  icases HPre with ⟨HaS, HaR, Ht1, Ht2, HcR, Hsrc, Hdst⟩
  ihave Hsrc := (Entails.of_eq (congrArg (free (F := F) c) hM.symm)) $$ Hsrc
  iapply (wp_load_slot_free M t inb c) $$ Hsrc
  iintro %_ Hsrc
  iapply (wp_store_slot M t inb c (sent P c ch) w' hw) $$ Hsrc
  iintro Hsrc
  ihave Hsrc := (Entails.of_eq (congrArg (fun b => holds (F := F) c b (sent P c ch)) hM)) $$ Hsrc
  iapply (wp_send P K c ch ⟨dev, hlt⟩ (Fin.ext hdev) (owedL c pend)) $$ [Hsrc Hdst HO Ht1 Ht2]
  · isplitr; · iexact HR
    isplitl [Hsrc]; · iexact Hsrc
    isplitl [Hdst]; · iexact Hdst
    isplitl [HO]; · iexact HO
    isplitl [Ht1] <;> iassumption
  iintro HcS HO
  iapply hcont
  unfold State
  isplitr
  · isplitr; · iexact HR
    iexact Hlev
  isplitl [Hp]; · iexact Hp
  isplitl [HO]; · iexact HO
  isplitl [Hpend]; · iexact Hpend
  isplitl [Hfly HaS HaR HcS HcR]
  · rw [bigSepL_append, bigSepL_singleton]
    isplitl [Hfly]; · iexact Hfly
    unfold Fly
    isplitl [HaS]; · iexact HaS
    isplitl [HaR]; · iexact HaR
    isplitl [HcS] <;> iassumption
  isplitl [Hdone] <;> iassumption

/-- A channel's FIRST transfer: the block's rows read, rounded, stored and sent. -/
theorem send_first {R : sProp 𝕄} {α : Type} {Q : α → sProp 𝕄} (ch : Ch) (hs : sent P c ch = first (rowsAt (P c) (blk c ch)))
    {n t : ℕ} {M : Memref sig .tc .vmem ⟨3, ![n, 96, 1536]⟩ .bf16}
    {inb : ∀ a, (![t, 0, 0] : Fin 3 → ℕ) a + S1x96x1536.size a ≤ (⟨3, ![n, 96, 1536]⟩ : Shape).size a}
    (hM : slot M t inb = src ch) {off : Fin 2 → ℕ} (hoff : off = ![96 * (blk c ch).val, 0])
    {inb' : ∀ a, off a + S96x1536.size a ≤ S1536x1536.size a}
    {hl' : pM.view.LoadsAt (Rect.unit (s := S1536x1536) off S96x1536.size inb').toLoadRect}
    (put : Vec F S96x1536 .f32 → Vec F S1x96x1536 .bf16)
    (hput : ∀ v, put v = shapeCast S1x96x1536 (first v) shapeCasts_S96x1536_S1x96x1536)
    {dev : ℕ} {hlt : dev < nD} (hdev : dev = (tgt c ch).val)
    {hl : M.view.LoadsAt (slotRect n t inb).toLoadRect}
    {hx : (M.access (slotRect n t inb)).Stores Finset.univ}
    {hm : (Finset.univ : Finset (slotRect n t inb).shape.Idx) = Finset.univ ∨ ∀ a, (slotRect n t inb).stride a = 1}
    {hsc : (dst ch : Memref sig (Dev.tc (⟨dev, hlt⟩ : Dev nD) : Thread nD τ).2.kind .vmem S96x1536 .bf16).view.ref.isScScratch = false}
    {hsrc : (src ch).view.WordExact} {hdst : (dst ch).view.WordExact}
    {hsem : DmaTarget.Typed .vmem (.dma (rS ch)) (.remote (Dev.tc (⟨dev, hlt⟩ : Dev nD) : Thread nD τ) (dst ch) (.dma (sS ch)) hsc)}
    {k : PUnit → Prog (TpuEff nD τ sig (Elt F) Λ₀ .tc) α}
    (hcont : State P K c R pend (fly ++ [ch]) done ⊢ run c Q (k ⟨⟩)) :
    State P K c R (ch :: pend) fly done
      ⊢ run c Q (.op (.load pM (Rect.unit (s := S1536x1536) off S96x1536.size inb').toLoadRect hl') fun v =>
          .op (.load M (slotRect n t inb).toLoadRect hl) fun _ =>
          .op (.store M (slotRect n t inb) (put v) Finset.univ hx hm) fun _ =>
          .op (.enqueueDma (src ch) (.remote (Dev.tc (⟨dev, hlt⟩ : Dev nD) : Thread nD τ) (dst ch) (.dma (sS ch)) hsc) (.dma (rS ch)) hsrc hdst hsem) k) := by
  have hw : put (rowsAt (P c) (blk c ch)) = shapeCast S1x96x1536 (sent P c ch) shapeCasts_S96x1536_S1x96x1536 := by rw [hput, hs]
  exact read_rows (blk c ch) hoff (store_send ch hM _ hw hdev hcont)

/-- A LATER transfer: the block's rows and the slot the channel's previous transfer landed in (`pr`) read, added,
    rounded, stored and sent. -/
theorem send_later {R : sProp 𝕄} {α : Type} {Q : α → sProp 𝕄} (ch pr : Ch) (hpr : pr ∈ done) (hs : sent P c ch = stepped (rowsAt (P c) (blk c ch)) (landed P c pr))
    {n t : ℕ} {M : Memref sig .tc .vmem ⟨3, ![n, 96, 1536]⟩ .bf16}
    {inb : ∀ a, (![t, 0, 0] : Fin 3 → ℕ) a + S1x96x1536.size a ≤ (⟨3, ![n, 96, 1536]⟩ : Shape).size a}
    (hM : slot M t inb = src ch)
    {n' t' : ℕ} {M' : Memref sig .tc .vmem ⟨3, ![n', 96, 1536]⟩ .bf16}
    {inb₂ : ∀ a, (![t', 0, 0] : Fin 3 → ℕ) a + S1x96x1536.size a ≤ (⟨3, ![n', 96, 1536]⟩ : Shape).size a}
    (hM' : slot M' t' inb₂ = dst pr)
    {off : Fin 2 → ℕ} (hoff : off = ![96 * (blk c ch).val, 0])
    {inb' : ∀ a, off a + S96x1536.size a ≤ S1536x1536.size a}
    {hl' : pM.view.LoadsAt (Rect.unit (s := S1536x1536) off S96x1536.size inb').toLoadRect}
    (put : Vec F S96x1536 .f32 → Vec F S1x96x1536 .bf16 → Vec F S1x96x1536 .bf16)
    (hput : ∀ v v', put v v' = shapeCast S1x96x1536 (stepped v (shapeCast S96x1536 v' shapeCasts_S1x96x1536_S96x1536)) shapeCasts_S96x1536_S1x96x1536)
    {dev : ℕ} {hlt : dev < nD} (hdev : dev = (tgt c ch).val)
    {hl : M.view.LoadsAt (slotRect n t inb).toLoadRect}
    {hl₂ : M'.view.LoadsAt (slotRect n' t' inb₂).toLoadRect}
    {hx : (M.access (slotRect n t inb)).Stores Finset.univ}
    {hm : (Finset.univ : Finset (slotRect n t inb).shape.Idx) = Finset.univ ∨ ∀ a, (slotRect n t inb).stride a = 1}
    {hsc : (dst ch : Memref sig (Dev.tc (⟨dev, hlt⟩ : Dev nD) : Thread nD τ).2.kind .vmem S96x1536 .bf16).view.ref.isScScratch = false}
    {hsrc : (src ch).view.WordExact} {hdst : (dst ch).view.WordExact}
    {hsem : DmaTarget.Typed .vmem (.dma (rS ch)) (.remote (Dev.tc (⟨dev, hlt⟩ : Dev nD) : Thread nD τ) (dst ch) (.dma (sS ch)) hsc)}
    {k : PUnit → Prog (TpuEff nD τ sig (Elt F) Λ₀ .tc) α}
    (hcont : State P K c R pend (fly ++ [ch]) done ⊢ run c Q (k ⟨⟩)) :
    State P K c R (ch :: pend) fly done
      ⊢ run c Q (.op (.load pM (Rect.unit (s := S1536x1536) off S96x1536.size inb').toLoadRect hl') fun v =>
          .op (.load M' (slotRect n' t' inb₂).toLoadRect hl₂) fun v' =>
          .op (.load M (slotRect n t inb).toLoadRect hl) fun _ =>
          .op (.store M (slotRect n t inb) (put v v') Finset.univ hx hm) fun _ =>
          .op (.enqueueDma (src ch) (.remote (Dev.tc (⟨dev, hlt⟩ : Dev nD) : Thread nD τ) (dst ch) (.dma (sS ch)) hsc) (.dma (rS ch)) hsrc hdst hsem) k) := by
  refine read_rows (blk c ch) hoff (read_landed pr hpr hM' fun v' hv' => ?_)
  exact store_send ch hM _ (by rw [hput, hs, hv']) hdev hcont

theorem pay_sent (P : Dev nD → Vec F S1536x1536 .f32) (c : Dev nD) (ch : Ch) : pay P c (some (some (ch, false))) false = free c (src ch) := rfl
theorem pay_landed (P : Dev nD → Vec F S1536x1536 .f32) (c : Dev nD) (ch : Ch) :
    pay P c (some (some (ch, true))) false = holds c (dst ch) (landed P c ch) := rfl

/-- The two WAITS for the transfer on the channel that has been under way longest: for what it sent, then for what it
    is to receive. -/
theorem wait_both {R : sProp 𝕄} {α : Type} {Q : α → sProp 𝕄} (ch : Ch) (hp : ∀ p ∈ pend, rnd ch < rnd p)
    {q₁ q₂ : DmaSem sig} (hq₁ : sS ch = q₁) (hq₂ : rS ch = q₂)
    {m₁ m₂ m₃ m₄ : Memref sig .tc .vmem S96x1536 .bf16} (hN₂ : m₂.view.dmaCredit = N) (hN₄ : m₄.view.dmaCredit = N)
    {h₁ : m₁.view.WordExact} {h₂ : m₂.view.WordExact} {h₃ : m₃.view.WordExact} {h₄ : m₄.view.WordExact}
    {k : PUnit → Prog (TpuEff nD τ sig (Elt F) Λ₀ .tc) α}
    (hcont : State P K c R pend fly (ch :: done) ⊢ run c Q (k ⟨⟩)) :
    State P K c R pend (ch :: fly) done
      ⊢ run c Q (.op (.waitDma2 q₁ m₁ m₂ h₁ h₂) fun _ => .op (.waitDma2 q₂ m₃ m₄ h₃ h₄) k) := by
  unfold State at hcont ⊢
  rw [bigSepL_cons'] at hcont ⊢
  iintro ⟨#HC, Hp, HO, Hpend, ⟨HFly, Hfly⟩, Hdone, HF⟩
  unfold Fly
  icases HFly with ⟨HaS, HaR, HcS, HcR⟩
  iapply (wp_wait_ch P K c (ch, false) q₁ (congrArg SemLoc.dma hq₁) hN₂ pend (fun p _ => by show 0 < 2 + rnd p; omega)) $$ [HcS HO HaS]
  · isplitr; · iexact HC
    isplitl [HcS]; · iexact HcS
    isplitl [HO] <;> iassumption
  iintro HaS Hsrc HO
  iapply (wp_wait_ch P K c (ch, true) q₂ (congrArg SemLoc.dma hq₂) hN₄ pend (fun p h => by have := hp p h; show 2 + rnd ch < 2 + rnd p; omega)) $$ [HcR HO HaR]
  · isplitr; · iexact HC
    isplitl [HcR]; · iexact HcR
    isplitl [HO] <;> iassumption
  iintro HaR Hdst HO
  ihave Hsrc := (Entails.of_eq (pay_sent P c ch)) $$ Hsrc
  ihave Hdst := (Entails.of_eq (pay_landed P c ch)) $$ Hdst
  iapply hcont
  isplitr; · iexact HC
  isplitl [Hp]; · iexact Hp
  isplitl [HO]; · iexact HO
  isplitl [Hpend]; · iexact Hpend
  isplitl [Hfly]; · iexact Hfly
  isplitr [HF]
  · isplitr [Hdone]
    · unfold Done
      isplitl [HaS]; · iexact HaS
      isplitl [HaR]; · iexact HaR
      isplitl [Hsrc]; · iexact Hsrc
      iexact Hdst
    iexact Hdone
  iexact HF

end Cert.KernelIdeal.RS

end
-- ==== Proof.Ends.lean ====
/-
The two ends of a device's run: the handshake it starts with, and the reads and the store it finishes with.
-/
module

public import proofs.«01_k».proof.Proof.Groups

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {P : Dev nD → Vec F S1536x1536 .f32} {K : Dev nD × Cx → ℕ} {c : Dev nD}

/-! ## The slots that change hands -/

omit [FloatOps F] in
/-- A device's receiving slots are what the two neighbours' transfers land in. -/
theorem give_slots (c : Dev nD) : (bigSep Finset.univ fun ch : Ch => free (F := F) c (dst ch)) ⊢ iprop(fwdSlots (prv c) ∗ bwdSlots (nxt c)) := by
  rw [bigSep_univ_sum]; unfold fwdSlots bwdSlots; rw [nxt_prv, prv_nxt]
  exact Entails.refl _

omit [FloatOps F] in
/-- What the neighbours hand over are the slots the device's own transfers land in. -/
theorem take_slots (c : Dev nD) : iprop(bwdSlots (F := F) c ∗ fwdSlots c) ⊢ bigSepL chans fun ch : Ch => free (F := F) (tgt c ch) (dst ch) := by
  rw [← bigSep_univ_eq_bigSepL chans (by decide) (by decide) (fun ch : Ch => free (F := F) (tgt c ch) (dst ch)), bigSep_univ_sum]
  show iprop(bwdSlots (F := F) c ∗ fwdSlots c) ⊢ iprop(fwdSlots (F := F) c ∗ bwdSlots c)
  iintro ⟨H1, H2⟩
  isplitl [H2] <;> iassumption

theorem payload_up (P : Dev nD → Vec F S1536x1536 .f32) (c : Dev nD) : (ringRd P).payload ((c : Thread nD τ), .reg barS) 0 true = fwdSlots c := payload_eq P c none true
theorem payload_down (P : Dev nD → Vec F S1536x1536 .f32) (c : Dev nD) : (ringRd P).payload ((c : Thread nD τ), .reg barS) 0 false = bwdSlots c := payload_eq P c none false
theorem mem_bar (P : Dev nD → Vec F S1536x1536 .f32) (c : Dev nD) (d : Bool) : d ∈ (ringRd P).duties ((c : Thread nD τ), .reg barS) 0 := by
  rw [show (ringRd P).duties ((c : Thread nD τ), .reg barS) 0 = _ from duties_bar P c]; exact Finset.mem_univ _

/-- The HANDSHAKE: a unit to each neighbour's barrier, with the slots that neighbour's transfers land in, and the wait
    for both units on the device's own. -/
theorem handshake {X : sProp 𝕄} {α : Type} {Q : α → sProp 𝕄} {d₁ d₂ : Dev nD} (h₁ : d₁ = prv c) (h₂ : d₂ = nxt c)
    {k : PUnit → Prog (TpuEff nD τ sig (Elt F) Λ₀ .tc) α}
    (hcont : iprop((records P K ∗ levAts L lv) ∗ (∃ W, owes (c : Thread nD τ) (owedL c chans) W)
        ∗ atPos ER (barCell c) (0 + 1) ∅ 0 ∗ (bigSepL chans fun ch => free (tgt c ch) (dst ch)) ∗ X) ⊢ run c Q (k ⟨⟩)) :
    iprop((records P K ∗ levAts L lv) ∗ (∃ W, owes (c : Thread nD τ) (O₀ c) W)
        ∗ (atPos ER (barCell c) 0 ∅ 0 ∗ dutyTok ER (barCell (prv c)) 0 true ∗ dutyTok ER (barCell (nxt c)) 0 false ∗ cred (tallyAt (barCell c) () 2))
        ∗ (bigSep Finset.univ fun ch : Ch => free (F := F) c (dst ch)) ∗ X)
      ⊢ run c Q (.op (.semSignal (d₁, .tc) barS (1#32).toInt) fun _ => .op (.semSignal (d₂, .tc) barS (1#32).toInt) fun _ =>
          .op (.semWait barS (2#32).toInt) k) := by
  subst h₁ h₂
  iintro ⟨⟨#HR, #Hlev⟩, ⟨%W, HO⟩, ⟨HatB, HtP, HtN, HcB⟩, Hslots, HX⟩
  ihave Hslots := (give_slots c) $$ Hslots
  icases Hslots with ⟨HsF, HsB⟩
  iapply (Rounds.wp_signal 𝒱₀ ER (ringRd P) (c : Thread nD τ) none (dst := (prv c : Thread nD τ)) (κ := K (prv c, none))
      (d := true) (mem_bar P (prv c) _) ((amount_bar P (prv c) true).trans (by decide)) () (O₁ c) rfl)
    $$ [HO HtP HsF]
  · isplitr; · iapply (inv_at P K (prv c) none); iexact HR
    isplitl [HO]; · iexact HO
    isplitl [HtP]; · iexact HtP
    isplitl [HsF]; · (rw [payload_up]; iexact HsF)
    iapply (reached_at P K (prv c) none); iexact HR
  iintro HO
  unfold O₁
  iapply (Rounds.wp_signal 𝒱₀ ER (ringRd P) (c : Thread nD τ) none (dst := (nxt c : Thread nD τ)) (κ := K (nxt c, none))
      (d := false) (mem_bar P (nxt c) _) ((amount_bar P (nxt c) false).trans (by decide)) () (owedL c chans) rfl)
    $$ [HO HtN HsB]
  · isplitr; · iapply (inv_at P K (nxt c) none); iexact HR
    isplitl [HO]; · iexact HO
    isplitl [HtN]; · iexact HtN
    isplitl [HsB]; · (rw [payload_down]; iexact HsB)
    iapply (reached_at P K (nxt c) none); iexact HR
  iintro HO
  iapply (Rounds.wp_wait_rest_token 𝒱₀ ER (ringRd P) (c : Thread nD τ) none (κ := K (c, none))
      (wpE_semWait_eq 𝒱₀ (c : Thread nD τ) none Set.univ) (Set.mem_univ _) () (O := owedL c chans) (W := W) (R := 0) (m := 0) (T := ∅)
      (show 0 + (2#32).toNat = (ringRd P).expect (barCell c) 0 by rw [expect_bar]; decide)) $$ [HcB HO HatB]
  · isplitr; · iapply (inv_at P K c none); iexact HR
    isplitl [HcB]; · iexact HcB
    isplitl [HO]; · iexact HO
    isplitr; · iapply (mayWait_owedL c none chans fun ch _ => by show 1 < 2 + rnd ch; omega); iexact Hlev
    iexact HatB
  iintro ⟨HO, HatB, -, Hpay⟩
  ihave Hp := (Entails.of_eq (show bigSep ((ringRd P).duties ((c : Thread nD τ), .reg barS) 0 \ ∅) (fun d => (ringRd P).payload ((c : Thread nD τ), .reg barS) 0 d) = _ from rest_bar P c)) $$ Hpay
  ihave Hp := (take_slots c) $$ Hp
  iapply hcont
  isplitr
  · isplitr; · iexact HR
    iexact Hlev
  isplitl [HO]; · iexists _; iexact HO
  isplitl [HatB]; · iexact HatB
  isplitl [Hp] <;> iassumption

/-! ## Whole buffers read and written -/

theorem zero₂ : (![0, 0] : Fin 2 → ℕ) = fun _ => 0 := funext fun a => by fin_cases a <;> rfl

/-- The PRODUCT: both operands read whole, and the buffer of the local product written whole. -/
theorem product {X : sProp 𝕄} {α : Type} {Q : α → sProp 𝕄} (A : Vec F S1536x768 .bf16) (B : Vec F S768x1536 .bf16)
    (put : Vec F S1536x768 .bf16 → Vec F S768x1536 .bf16 → Vec F S1536x1536 .f32) (hP : P c = put A B)
    {i₁ : ∀ a, (![0, 0] : Fin 2 → ℕ) a + S1536x768.size a ≤ S1536x768.size a} {i₂ : ∀ a, (![0, 0] : Fin 2 → ℕ) a + S768x1536.size a ≤ S768x1536.size a}
    {i₃ : ∀ a, (![0, 0] : Fin 2 → ℕ) a + S1536x1536.size a ≤ S1536x1536.size a}
    {l₁ : aM.view.LoadsAt (Rect.unit (s := S1536x768) ![0, 0] S1536x768.size i₁).toLoadRect}
    {l₂ : bM.view.LoadsAt (Rect.unit (s := S768x1536) ![0, 0] S768x1536.size i₂).toLoadRect}
    {l₃ : pM.view.LoadsAt (Rect.unit (s := S1536x1536) ![0, 0] S1536x1536.size i₃).toLoadRect}
    {hx : (pM.access (Rect.unit (s := S1536x1536) ![0, 0] S1536x1536.size i₃)).Stores Finset.univ}
    {hm : (Finset.univ : Finset (Rect.unit (s := S1536x1536) ![0, 0] S1536x1536.size i₃).shape.Idx) = Finset.univ ∨ ∀ a, (Rect.unit (s := S1536x1536) ![0, 0] S1536x1536.size i₃).stride a = 1}
    {k : PUnit → Prog (TpuEff nD τ sig (Elt F) Λ₀ .tc) α}
    (hcont : iprop(holds c aM A ∗ holds c bM B ∗ holds c pM (P c) ∗ X) ⊢ run c Q (k ⟨⟩)) :
    iprop(holds c aM A ∗ holds c bM B ∗ free c pM ∗ X)
      ⊢ run c Q (.op (.load aM (Rect.unit (s := S1536x768) ![0, 0] S1536x768.size i₁).toLoadRect l₁) fun v =>
          .op (.load bM (Rect.unit (s := S768x1536) ![0, 0] S768x1536.size i₂).toLoadRect l₂) fun w =>
          .op (.load pM (Rect.unit (s := S1536x1536) ![0, 0] S1536x1536.size i₃).toLoadRect l₃) fun _ =>
          .op (.store pM (Rect.unit (s := S1536x1536) ![0, 0] S1536x1536.size i₃) (put v w) Finset.univ hx hm) k) := by
  unfold holds owns free at *
  simp only [Memref.view_whole, View.read_whole, View.set_whole] at *
  iintro ⟨⟨%fa, %ha, HA⟩, ⟨%fb, %hb, HB⟩, ⟨%fp, HP⟩, HX⟩
  subst ha hb
  iapply (wp_load 𝒱₀ (c : Thread nD τ) none Set.univ (m := aM) (Finset.subset_univ _)) $$ HA; iintro HA
  rw [show aM.view.readAt (Elt F) (Rect.unit (s := S1536x768) ![0, 0] S1536x768.size i₁).toLoadRect fa = fa from Memref.readAt_unit_zero (Elt F) cc0_stg0_0 zero₂ _ fa]
  iapply (wp_load 𝒱₀ (c : Thread nD τ) none Set.univ (m := bM) (Finset.subset_univ _)) $$ HB; iintro HB
  rw [show bM.view.readAt (Elt F) (Rect.unit (s := S768x1536) ![0, 0] S768x1536.size i₂).toLoadRect fb = fb from Memref.readAt_unit_zero (Elt F) cc0_stg1_0 zero₂ _ fb]
  iapply (wp_load 𝒱₀ (c : Thread nD τ) none Set.univ (m := pM) (Finset.subset_univ _)) $$ HP; iintro HP
  iapply (wp_store 𝒱₀ (c : Thread nD τ) none Set.univ (m := pM) (r := Rect.unit (s := S1536x1536) ![0, 0] S1536x1536.size i₃) (Mk := Finset.univ) (Finset.subset_univ _)) $$ HP; iintro HP
  rw [show (pM.access (Rect.unit (s := S1536x1536) ![0, 0] S1536x1536.size i₃) : View sig .tc _ _ _).write (Elt F) fp (put fa fb) Finset.univ = put fa fb from Memref.write_access_unit_zero_univ (Elt F) cc0_scratch0 zero₂ _ fp _]
  iapply hcont
  isplitl [HA]; · iexists _; isplitr; · (ipureintro; rfl)
                  iexact HA
  isplitl [HB]; · iexists _; isplitr; · (ipureintro; rfl)
                  iexact HB
  isplitl [HP]; · iexists _; isplitr; · (ipureintro; exact hP.symm)
                  iexact HP
  iexact HX

/-- The RESULT written whole. -/
theorem store_result {X : sProp 𝕄} {α : Type} {Q : α → sProp 𝕄} (w : Vec F S96x1536 .f32)
    {i₁ : ∀ a, (![0, 0] : Fin 2 → ℕ) a + S96x1536.size a ≤ S96x1536.size a}
    {l₁ : oM.view.LoadsAt (Rect.unit (s := S96x1536) ![0, 0] S96x1536.size i₁).toLoadRect}
    {hx : (oM.access (Rect.unit (s := S96x1536) ![0, 0] S96x1536.size i₁)).Stores Finset.univ}
    {hm : (Finset.univ : Finset (Rect.unit (s := S96x1536) ![0, 0] S96x1536.size i₁).shape.Idx) = Finset.univ ∨ ∀ a, (Rect.unit (s := S96x1536) ![0, 0] S96x1536.size i₁).stride a = 1}
    {k : PUnit → Prog (TpuEff nD τ sig (Elt F) Λ₀ .tc) α}
    (hcont : iprop(holds c oM w ∗ X) ⊢ run c Q (k ⟨⟩)) :
    iprop(free c oM ∗ X)
      ⊢ run c Q (.op (.load oM (Rect.unit (s := S96x1536) ![0, 0] S96x1536.size i₁).toLoadRect l₁) fun _ =>
          .op (.store oM (Rect.unit (s := S96x1536) ![0, 0] S96x1536.size i₁) w Finset.univ hx hm) k) := by
  unfold holds owns free at *
  simp only [Memref.view_whole, View.read_whole, View.set_whole] at *
  iintro ⟨⟨%f, HO⟩, HX⟩
  iapply (wp_load 𝒱₀ (c : Thread nD τ) none Set.univ (m := oM) (Finset.subset_univ _)) $$ HO; iintro HO
  iapply (wp_store 𝒱₀ (c : Thread nD τ) none Set.univ (m := oM) (r := Rect.unit (s := S96x1536) ![0, 0] S96x1536.size i₁) (Mk := Finset.univ) (Finset.subset_univ _)) $$ HO; iintro HO
  rw [show (oM.access (Rect.unit (s := S96x1536) ![0, 0] S96x1536.size i₁) : View sig .tc _ _ _).write (Elt F) f w Finset.univ = w from Memref.write_access_unit_zero_univ (Elt F) cc0_stg2_0 zero₂ _ f _]
  iapply hcont
  isplitl [HO]; · iexists _; isplitr; · (ipureintro; rfl)
                  iexact HO
  iexact HX

/-! ## The semaphores closed -/

/-- A device's semaphore whose round is over is at zero, and its own again. -/
theorem close_cell (x : Cx) : iprop(records P K ∗ atPos ER (cell c x) (0 + 1) ∅ 0) ⊢ iprop(|={Set.univ}=> semVal (cell c x) 0) := by
  iintro ⟨#HR, Hat⟩
  iapply (Rounds.cell_close ER (ringRd P) (Set.mem_univ (K (c, x))) (fun h => h) (R := 0 + 1) (duties_later P (cell c x)))
  isplitr; · iapply (inv_at P K c x); iexact HR
  iexact Hat

/-- What a channel leaves: its two semaphores at zero and its two slots. -/
def Left (c : Dev nD) (ch : Ch) : sProp 𝕄 :=
  iprop((semVal (sCell c ch) 0 ∗ semVal (rCell c ch) 0) ∗ free c (src ch) ∗ free c (dst ch))

theorem close_channel (ch : Ch) : iprop(records P K ∗ Done P c ch) ⊢ iprop(|={Set.univ}=> Left c ch) := by
  unfold Done Left
  iintro ⟨#HR, HS, HR', Hs, Hd⟩
  imod (close_cell (P := P) (K := K) (c := c) (some (ch, false))) $$ [HS] with HS
  · isplitr; · iexact HR
    iexact HS
  imod (close_cell (P := P) (K := K) (c := c) (some (ch, true))) $$ [HR'] with HR'
  · isplitr; · iexact HR
    iexact HR'
  imodintro
  isplitl [HS HR']; · isplitl [HS] <;> iassumption
  isplitl [Hs]; · iexact Hs
  iapply (holds_free c (dst ch) _); iexact Hd

theorem close_list : ∀ l : List Ch, iprop(records P K ∗ bigSepL l (Done P c)) ⊢ iprop(|={Set.univ}=> bigSepL l (Left c))
  | [] => by
    show _ ⊢ iprop(|={Set.univ}=> emp)
    iintro -; imodintro; iempintro
  | ch :: l => by
    rw [bigSepL_cons', bigSepL_cons']
    iintro ⟨#HR, H, Hl⟩
    imod (close_channel (P := P) (K := K) (c := c) ch) $$ [H] with H
    · isplitr; · iexact HR
      iexact H
    imod (close_list l) $$ [Hl] with Hl
    · isplitr; · iexact HR
      iexact Hl
    imodintro
    isplitl [H] <;> iassumption

end Cert.KernelIdeal.RS

end
-- ==== Proof.Body.lean ====
/-
A device's run, from the handshake to the result.
-/
module

public import proofs.«01_k».proof.Proof.Ends

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {P : Dev nD → Vec F S1536x1536 .f32} {K : Dev nD × Cx → ℕ} {c : Dev nD}

omit [FloatOps F] in
/-- Two lists of resources over the same channels, put together channel by channel. -/
theorem zip_list {I : Type} (Φ Ψ : I → sProp 𝕄) : ∀ l : List I, iprop(bigSepL l Φ ∗ bigSepL l Ψ) ⊢ bigSepL l fun i => iprop(Φ i ∗ Ψ i)
  | [] => by
    show _ ⊢ (BI.emp : sProp 𝕄)
    iintro -; iempintro
  | i :: l => by
    rw [bigSepL_cons', bigSepL_cons', bigSepL_cons']
    iintro ⟨⟨H1, H2⟩, H3, H4⟩
    isplitl [H1 H3]; · isplitl [H1] <;> iassumption
    iapply (zip_list Φ Ψ l); isplitl [H2] <;> iassumption

omit [FloatOps F] in
theorem none_held {I : Type} (Φ : I → sProp 𝕄) : iprop(emp) ⊢ bigSepL [] Φ := Entails.refl _

/-- What a device holds of a channel when the run starts. -/
def Have (c : Dev nD) (ch : Ch) : sProp 𝕄 :=
  iprop(atPos ER (sCell c ch) 0 ∅ 0 ∗ atPos ER (rCell c ch) 0 ∅ 0
    ∗ dutyTok ER (sCell c ch) 0 false ∗ dutyTok ER (rCell (tgt c ch) ch) 0 false
    ∗ cred (tallyAt (rCell c ch) () N) ∗ free c (src ch))

omit [FloatOps F] in
theorem have_pre (l : List Ch) : iprop(bigSepL l (Have (F := F) c) ∗ bigSepL l fun ch => free (tgt c ch) (dst ch)) ⊢ bigSepL l (Pre c) :=
  (zip_list _ _ l).trans (bigSepL_mono fun ch _ => by
    unfold Have Pre
    iintro ⟨⟨H1, H2, H3, H4, H5, H6⟩, H7⟩
    isplitl [H1]; · iexact H1
    isplitl [H2]; · iexact H2
    isplitl [H3]; · iexact H3
    isplitl [H4]; · iexact H4
    isplitl [H5]; · iexact H5
    isplitl [H6] <;> iassumption)

/-- What the run keeps aside while the transfers go. -/
def Aside (c : Dev nD) (A : Vec F S1536x768 .bf16) (B : Vec F S768x1536 .bf16) : sProp 𝕄 :=
  iprop(atPos ER (barCell c) (0 + 1) ∅ 0 ∗ holds c aM A ∗ holds c bM B)

/-- The buffers the run starts from. -/
def Bufs (c : Dev nD) (A : Vec F S1536x768 .bf16) (B : Vec F S768x1536 .bf16) : sProp 𝕄 :=
  iprop(holds c aM A ∗ holds c bM B ∗ free c pM ∗ bigSepL chans (Have c) ∗ free c oM)

/-- After the handshake: as the product takes it, -/
theorem to_product (A : Vec F S1536x768 .bf16) (B : Vec F S768x1536 .bf16) :
    iprop((records P K ∗ levAts L lv) ∗ (∃ W, owes (c : Thread nD τ) (owedL c chans) W)
        ∗ atPos ER (barCell c) (0 + 1) ∅ 0 ∗ (bigSepL chans fun ch => free (tgt c ch) (dst ch)) ∗ Bufs c A B)
      ⊢ iprop(holds c aM A ∗ holds c bM B ∗ free c pM ∗ (records P K ∗ levAts L lv) ∗ (∃ W, owes (c : Thread nD τ) (owedL c chans) W)
        ∗ atPos ER (barCell c) (0 + 1) ∅ 0 ∗ bigSepL chans (Pre c) ∗ free c oM) := by
  unfold Bufs
  iintro ⟨HC, HO, Hat, Hs, HA, HB, HP, HH, Ho⟩
  isplitl [HA]; · iexact HA
  isplitl [HB]; · iexact HB
  isplitl [HP]; · iexact HP
  isplitl [HC]; · iexact HC
  isplitl [HO]; · iexact HO
  isplitl [Hat]; · iexact Hat
  isplitr [Ho]
  · iapply (have_pre (F := F) (c := c) chans); isplitl [HH] <;> iassumption
  iexact Ho

/-- and after the product as the transfers take it. -/
theorem to_state (A : Vec F S1536x768 .bf16) (B : Vec F S768x1536 .bf16) :
    iprop(holds c aM A ∗ holds c bM B ∗ holds c pM (P c) ∗ (records P K ∗ levAts L lv) ∗ (∃ W, owes (c : Thread nD τ) (owedL c chans) W)
        ∗ atPos ER (barCell c) (0 + 1) ∅ 0 ∗ bigSepL chans (Pre c) ∗ free c oM)
      ⊢ State P K c iprop(free c oM ∗ Aside c A B) chans [] [] := by
  unfold State Aside
  iintro ⟨HA, HB, HP, HC, HO, Hat, HH, Ho⟩
  isplitl [HC]; · iexact HC
  isplitl [HP]; · iexact HP
  isplitl [HO]; · iexact HO
  isplitl [HH]; · iexact HH
  isplitr; · iapply (none_held _); iempintro
  isplitr; · iapply (none_held _); iempintro
  isplitl [Ho]; · iexact Ho
  isplitl [Hat]; · iexact Hat
  isplitl [HA] <;> iassumption

theorem from_state {R R' : sProp 𝕄} {done : List Ch} : State P K c iprop(R ∗ R') [] [] done ⊢ iprop(R ∗ State P K c R' [] [] done) := by
  unfold State
  iintro ⟨H1, H2, H3, H4, H5, H6, HR, HR'⟩
  isplitl [HR]; · iexact HR
  isplitl [H1]; · iexact H1
  isplitl [H2]; · iexact H2
  isplitl [H3]; · iexact H3
  isplitl [H4]; · iexact H4
  isplitl [H5]; · iexact H5
  isplitl [H6] <;> iassumption

/-- What the run ends with. -/
def Ending (P : Dev nD → Vec F S1536x1536 .f32) (c : Dev nD) (A : Vec F S1536x768 .bf16) (B : Vec F S768x1536 .bf16) (done : List Ch) : sProp 𝕄 :=
  iprop(holds c oM (outAt P c) ∗ holds c aM A ∗ holds c bM B ∗ (∃ W, owes (c : Thread nD τ) 0 W) ∗ free c pM
    ∗ semVal (barCell c) 0 ∗ bigSepL done (Left c))

theorem to_ending (A : Vec F S1536x768 .bf16) (B : Vec F S768x1536 .bf16) (done : List Ch) :
    iprop(holds c oM (outAt P c) ∗ State P K c (Aside c A B) [] [] done) ⊢ iprop(|={Set.univ}=> Ending P c A B done) := by
  unfold State Aside Ending
  iintro ⟨Ho, ⟨#HR, -⟩, HP, HO, -, -, Hd, Hat, HA, HB⟩
  imod (close_list (P := P) (K := K) (c := c) done) $$ [Hd] with Hd
  · isplitr; · iexact HR
    iexact Hd
  imod (close_cell (P := P) (K := K) (c := c) none) $$ [Hat] with Hb
  · isplitr; · iexact HR
    iexact Hat
  imodintro
  isplitl [Ho]; · iexact Ho
  isplitl [HA]; · iexact HA
  isplitl [HB]; · iexact HB
  isplitl [HO]; · iexact HO
  isplitl [HP]; · iapply (holds_free c pM _); iexact HP
  isplitl [Hb] <;> iassumption

set_option maxRecDepth 65536 in
set_option maxHeartbeats 4000000 in
/-- The RUN of a device, step by step in the kernel's order. -/
theorem run_body {Q : PUnit → sProp 𝕄} (A : Vec F S1536x768 .bf16) (B : Vec F S768x1536 .bf16) (hP : P c = k0_pay2 A B)
    (hpost : Ending P c A B chans.reverse ⊢ Q ⟨⟩) :
    iprop((records P K ∗ levAts L lv) ∗ (∃ W, owes (c : Thread nD τ) (O₀ c) W)
        ∗ (atPos ER (barCell c) 0 ∅ 0 ∗ dutyTok ER (barCell (prv c)) 0 true ∗ dutyTok ER (barCell (nxt c)) 0 false ∗ cred (tallyAt (barCell c) () 2))
        ∗ (bigSep Finset.univ fun ch : Ch => free (F := F) c (dst ch)) ∗ Bufs c A B)
      ⊢ run c Q (bodyAt0 (F := F) t0_0) := by
  unfold run bodyAt0
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel
  simp only [semSignalWord, semWaitWord, Prog.lift, Prog.bind_op, Prog.bind_ret, Prog.pure_eq_ret, Prog.bind_assoc, wp_deviceId]
  refine handshake (Fin.ext (dev1_eq c)) (Fin.ext (dev2_eq c)) ?_
  refine (to_product A B).trans (product A B k0_pay2 hP ?_)
  refine (to_state A B).trans ?_
  refine send_first (.inl 0) rfl rfl (off1_eq c 0) _ (fun _ => rfl) (dev3_eq c) ?_
  refine send_first (.inr 0) rfl rfl (off2_eq c 0) _ (fun _ => rfl) (dev4_eq c) ?_
  refine wait_both (.inl 0) ?_ ?_ ?_ ?_ ?_ ?_
  · decide
  · rfl
  · rfl
  · rfl
  · rfl
  refine wait_both (.inr 0) ?_ ?_ ?_ ?_ ?_ ?_
  · decide
  · rfl
  · rfl
  · rfl
  · rfl
  refine send_later (.inl 1) (.inl 0) ?_ rfl rfl rfl (off1_eq c 1) _ (fun _ _ => rfl) (dev5_eq c) ?_
  · simp only [List.mem_cons, true_or, or_true]
  refine send_later (.inr 1) (.inr 0) ?_ rfl rfl rfl (off2_eq c 1) _ (fun _ _ => rfl) (dev6_eq c) ?_
  · simp only [List.mem_cons, true_or, or_true]
  refine wait_both (.inl 1) ?_ ?_ ?_ ?_ ?_ ?_
  · decide
  · rfl
  · rfl
  · rfl
  · rfl
  refine wait_both (.inr 1) ?_ ?_ ?_ ?_ ?_ ?_
  · decide
  · rfl
  · rfl
  · rfl
  · rfl
  refine send_later (.inl 2) (.inl 1) ?_ rfl rfl rfl (off1_eq c 2) _ (fun _ _ => rfl) (dev7_eq c) ?_
  · simp only [List.mem_cons, true_or, or_true]
  refine send_later (.inr 2) (.inr 1) ?_ rfl rfl rfl (off2_eq c 2) _ (fun _ _ => rfl) (dev8_eq c) ?_
  · simp only [List.mem_cons, true_or, or_true]
  refine wait_both (.inl 2) ?_ ?_ ?_ ?_ ?_ ?_
  · decide
  · rfl
  · rfl
  · rfl
  · rfl
  refine wait_both (.inr 2) ?_ ?_ ?_ ?_ ?_ ?_
  · decide
  · rfl
  · rfl
  · rfl
  · rfl
  refine send_later (.inl 3) (.inl 2) ?_ rfl rfl rfl (off1_eq c 3) _ (fun _ _ => rfl) (dev9_eq c) ?_
  · simp only [List.mem_cons, true_or, or_true]
  refine send_later (.inr 3) (.inr 2) ?_ rfl rfl rfl (off2_eq c 3) _ (fun _ _ => rfl) (dev10_eq c) ?_
  · simp only [List.mem_cons, true_or, or_true]
  refine wait_both (.inl 3) ?_ ?_ ?_ ?_ ?_ ?_
  · decide
  · rfl
  · rfl
  · rfl
  · rfl
  refine wait_both (.inr 3) ?_ ?_ ?_ ?_ ?_ ?_
  · decide
  · rfl
  · rfl
  · rfl
  · rfl
  refine send_later (.inl 4) (.inl 3) ?_ rfl rfl rfl (off1_eq c 4) _ (fun _ _ => rfl) (dev11_eq c) ?_
  · simp only [List.mem_cons, true_or, or_true]
  refine send_later (.inr 4) (.inr 3) ?_ rfl rfl rfl (off2_eq c 4) _ (fun _ _ => rfl) (dev12_eq c) ?_
  · simp only [List.mem_cons, true_or, or_true]
  refine wait_both (.inl 4) ?_ ?_ ?_ ?_ ?_ ?_
  · decide
  · rfl
  · rfl
  · rfl
  · rfl
  refine wait_both (.inr 4) ?_ ?_ ?_ ?_ ?_ ?_
  · decide
  · rfl
  · rfl
  · rfl
  · rfl
  refine send_later (.inl 5) (.inl 4) ?_ rfl rfl rfl (off1_eq c 5) _ (fun _ _ => rfl) (dev13_eq c) ?_
  · simp only [List.mem_cons, true_or, or_true]
  refine send_later (.inr 5) (.inr 4) ?_ rfl rfl rfl (off2_eq c 5) _ (fun _ _ => rfl) (dev14_eq c) ?_
  · simp only [List.mem_cons, true_or, or_true]
  refine wait_both (.inl 5) ?_ ?_ ?_ ?_ ?_ ?_
  · decide
  · rfl
  · rfl
  · rfl
  · rfl
  refine wait_both (.inr 5) ?_ ?_ ?_ ?_ ?_ ?_
  · decide
  · rfl
  · rfl
  · rfl
  · rfl
  refine send_later (.inl 6) (.inl 5) ?_ rfl rfl rfl (off1_eq c 6) _ (fun _ _ => rfl) (dev15_eq c) ?_
  · simp only [List.mem_cons, true_or, or_true]
  refine send_later (.inr 6) (.inr 5) ?_ rfl rfl rfl (off2_eq c 6) _ (fun _ _ => rfl) (dev16_eq c) ?_
  · simp only [List.mem_cons, true_or, or_true]
  refine wait_both (.inl 6) ?_ ?_ ?_ ?_ ?_ ?_
  · decide
  · rfl
  · rfl
  · rfl
  · rfl
  refine wait_both (.inr 6) ?_ ?_ ?_ ?_ ?_ ?_
  · decide
  · rfl
  · rfl
  · rfl
  · rfl
  refine send_later (.inr 7) (.inr 6) ?_ rfl rfl rfl (off2_eq c 7) _ (fun _ _ => rfl) (dev17_eq c) ?_
  · simp only [List.mem_cons, true_or, or_true]
  refine wait_both (.inr 7) ?_ ?_ ?_ ?_ ?_ ?_
  · decide
  · rfl
  · rfl
  · rfl
  · rfl
  refine read_rows c (k0_off3_eq c) (read_landed (.inl 6) ?_ rfl fun v hv => read_landed (.inr 7) ?_ rfl fun v' hv' => ?_)
  · simp only [List.mem_cons, true_or, or_true]
  · simp only [List.mem_cons, true_or, or_true]
  refine from_state.trans (store_result _ ?_)
  rw [show k0_pay1 (rowsAt (P c) c) v v' = outAt P c by unfold outAt; rw [← hv, ← hv']; rfl]
  refine (to_ending A B _).trans ?_
  unfold run
  rw [wp_ret]
  exact fupd_mono hpost

end Cert.KernelIdeal.RS

end
-- ==== Proof.Slots.lean ====
/-
The buffers of blocks cut into slots, and sums over the channels.
-/
module

public import proofs.«01_k».proof.Proof.Body

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums over the channels, and over a device's cells -/

omit [FloatOps F] in
/-- Over all channels: over the seven forward, and over the eight backward. -/
theorem over_channels (Φ : Ch → sProp 𝕄) :
    bigSep Finset.univ Φ = iprop((bigSep Finset.univ fun t : Fin 7 => Φ (.inl t)) ∗ bigSep Finset.univ fun t : Fin 8 => Φ (.inr t)) :=
  bigSep_univ_sum Φ
omit [FloatOps F] in
/-- Over a device's cells: the barrier's, and the channels' two each. -/
theorem over_cells (Φ : Cx → sProp 𝕄) :
    bigSep Finset.univ Φ = iprop(Φ none ∗ bigSep Finset.univ fun k : Ch × Bool => Φ (some k)) := by
  rw [bigSep_univ_equiv ((Equiv.optionEquivSumPUnit.{0} (Ch × Bool)).trans (Equiv.sumComm _ _)).symm Φ]
  refine (bigSep_univ_sum _).trans ?_
  rw [bigSep_univ_of_subsingleton PUnit.unit.{1}]
  rfl
omit [FloatOps F] in
theorem over_sides (Φ : Ch × Bool → sProp 𝕄) :
    bigSep Finset.univ Φ = iprop((bigSep Finset.univ fun ch => Φ (ch, false)) ∗ bigSep Finset.univ fun ch => Φ (ch, true)) := by
  rw [bigSep_univ_prod, ← bigSep_sep']
  exact bigSep_congr fun ch _ => bigSep_univ_eq_bigSepL [false, true] (by decide) (by decide) _
omit [FloatOps F] in
theorem over_list (Φ : Ch → sProp 𝕄) : bigSep Finset.univ Φ = bigSepL chans Φ := bigSep_univ_eq_bigSepL chans (by decide) (by decide) Φ
omit [FloatOps F] in
theorem over_list_rev (Φ : Ch → sProp 𝕄) : bigSep Finset.univ Φ = bigSepL chans.reverse Φ := bigSep_univ_eq_bigSepL chans.reverse (by decide) (by decide) Φ

/-! ## A buffer of blocks, cut into its slots and put together again -/

section Cut

variable {n : ℕ} (M : Memref sig .tc .vmem ⟨3, ![n, 96, 1536]⟩ .bf16) (hM : M.view.set = Finset.univ)

/-- The elements of slot `t`. -/
def cutAt (t : Fin n) : Finset M.view.ty.Idx := (slot M t.val (slot_inb t.isLt)).view.set

theorem slots_apart (t u : Fin n) (h : t ≠ u) :
    Disjoint (cutAt M t) (cutAt M u) := by
  unfold cutAt
  rw [slot_set, slot_set, View.set_slice, View.set_slice, Finset.disjoint_map]
  exact Ring.lead_disjoint (s := ⟨3, ![n, 96, 1536]⟩) (NB := n) (0 : Fin 3) 1 (fun t => ![t.val, 0, 0]) S1x96x1536.size (fun t => slot_inb t.isLt)
    (fun t => (Nat.one_mul t.val).symm) rfl t u h

include hM in
theorem slots_all : Finset.univ.biUnion (cutAt M) = Finset.univ := by
  have h := Ring.lead_cover (s := ⟨3, ![n, 96, 1536]⟩) (NB := n) (0 : Fin 3) 1 (fun t => ![t.val, 0, 0]) S1x96x1536.size (fun t => slot_inb t.isLt)
    (fun t => (Nat.one_mul t.val).symm) (fun t a ha => by
      match a with
      | ⟨0, _⟩ => exact absurd rfl ha
      | ⟨1, _⟩ => rfl
      | ⟨2, _⟩ => rfl) rfl (fun a ha => by
      match a with
      | ⟨0, _⟩ => exact absurd rfl ha
      | ⟨1, _⟩ => rfl
      | ⟨2, _⟩ => rfl) (Nat.mul_one n)
  rw [← hM]
  ext i
  constructor
  · intro _; rw [hM]; exact Finset.mem_univ i
  · intro hi
    obtain ⟨j, -, rfl⟩ := Finset.mem_map.mp hi
    obtain ⟨t, -, ht⟩ := Finset.mem_biUnion.mp ((h ▸ Finset.mem_univ j : j ∈ Finset.univ.biUnion _))
    refine Finset.mem_biUnion.mpr ⟨t, Finset.mem_univ _, ?_⟩
    unfold cutAt
    rw [slot_set, View.set_slice]
    exact Finset.mem_map_of_mem _ ht

omit [FloatOps F] in
include hM in
theorem cut (c : Dev nD) : (iprop(∃ f, M.view.loc (c : Thread nD τ) ↦{fullShare} f) : sProp 𝕄)
    ⊢ bigSep Finset.univ fun t : Fin n => free c (slot M t.val (slot_inb t.isLt)) := by
  have h (f : Buf (Elt F) (M.view.loc (c : Thread nD τ))) : (M.view.loc (c : Thread nD τ) ↦{fullShare} f : sProp 𝕄)
      ⊢ bigSep Finset.univ fun t : Fin n => free c (slot M t.val (slot_inb t.isLt)) := by
    rw [Ring.pointsTo_blocks (ℓ := M.view.loc (c : Thread nD τ)) (cutAt M) (fun t u h => slots_apart M t u h) (slots_all M hM) f]
    refine bigSep_mono fun t _ => ?_
    show (M.view.loc (c : Thread nD τ) ↦[cutAt M t]{fullShare} f : sProp 𝕄) ⊢ free c (slot M t.val (slot_inb t.isLt))
    unfold free
    iintro H; iexists f; iexact H
  iintro ⟨%f, H⟩
  iapply (h f); iexact H

omit [FloatOps F] in
include hM in
theorem put (c : Dev nD) (f₀ : Buf (Elt F) (M.view.loc (c : Thread nD τ))) : (bigSep Finset.univ fun t : Fin n => free (F := F) c (slot M t.val (slot_inb t.isLt)))
    ⊢ (iprop(∃ f, M.view.loc (c : Thread nD τ) ↦{fullShare} f) : sProp 𝕄) :=
  Ring.pointsTo_blocks_join_exists (ℓ := M.view.loc (c : Thread nD τ)) (cutAt M)
    (fun t u h => slots_apart M t u h) (slots_all M hM) f₀

end Cut

end Cert.KernelIdeal.RS

end
-- ==== Proof.Cells.lean ====
/-
The cells and tokens the launch mints, and how they are dealt to the devices.
-/
module

public import proofs.«01_k».proof.Proof.Slots

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S1536x1536 .f32)

/-! ## The cells and the tokens the launch mints -/

/-- Every cell of every device. -/
def ringCells : Finset (GSem nD τ sig) := Finset.univ.map ⟨kcell, kcell_inj⟩

/-- Every duty token: two of each device's barrier cell, one of each of its channel cells. -/
def tokOf (p : Dev nD × (Bool ⊕ (Ch × Bool))) : GSem nD τ sig × ℕ × Bool :=
  match p.2 with
  | .inl d => (barCell p.1, 0, d)
  | .inr k => (cell p.1 (some k), 0, false)

theorem tokOf_inj : Function.Injective tokOf := by
  rintro ⟨c, x⟩ ⟨c', x'⟩ h
  rcases x with d | k <;> rcases x' with d' | k'
  · have h1 : kcell (c, none) = kcell (c', none) := congrArg (fun t : GSem nD τ sig × ℕ × Bool => t.1) h
    have h2 : d = d' := congrArg (fun t : GSem nD τ sig × ℕ × Bool => t.2.2) h
    have h3 : c = c' := congrArg Prod.fst (kcell_inj h1)
    subst h2; subst h3; rfl
  · have h1 : kcell (c, none) = kcell (c', some k') := congrArg (fun t : GSem nD τ sig × ℕ × Bool => t.1) h
    exact absurd (congrArg Prod.snd (kcell_inj h1) : (none : Cx) = some k') (Option.some_ne_none k').symm
  · have h1 : kcell (c, some k) = kcell (c', none) := congrArg (fun t : GSem nD τ sig × ℕ × Bool => t.1) h
    exact absurd (congrArg Prod.snd (kcell_inj h1) : (some k : Cx) = none) (Option.some_ne_none k)
  · have h1 : kcell (c, some k) = kcell (c', some k') := congrArg (fun t : GSem nD τ sig × ℕ × Bool => t.1) h
    have h2 : c = c' := congrArg Prod.fst (kcell_inj h1)
    have h3 : k = k' := Option.some.inj (congrArg Prod.snd (kcell_inj h1))
    subst h2; subst h3; rfl

def ringToks : Finset (GSem nD τ sig × ℕ × Bool) := Finset.univ.map ⟨tokOf, tokOf_inj⟩

/-- The launch's ghost element: the staging cells' and the ring's. -/
def u₀ : UU := (initOf (Pipeline.cells cfgs cellOf_inj) (Pipeline.launchToks cfgs cellOf_inj), initOf ringCells ringToks)

/-- The tokens of a device's own cells. -/
def toks (c : Dev nD) : sProp 𝕄 :=
  iprop(dutyTok ER (barCell c) 0 false ∗ dutyTok ER (barCell c) 0 true
    ∗ (bigSep Finset.univ fun ch : Ch => dutyTok ER (sCell c ch) 0 false) ∗ bigSep Finset.univ fun ch : Ch => dutyTok ER (rCell c ch) 0 false)
/-- The tokens of the duties a device pays. -/
def payToks (c : Dev nD) : sProp 𝕄 :=
  iprop(dutyTok ER (barCell (prv c)) 0 true ∗ dutyTok ER (barCell (nxt c)) 0 false
    ∗ (bigSep Finset.univ fun ch : Ch => dutyTok ER (sCell c ch) 0 false) ∗ bigSep Finset.univ fun ch : Ch => dutyTok ER (rCell (tgt c ch) ch) 0 false)

/-- What the launch deals a device. -/
def G (c : Dev nD) : sProp 𝕄 :=
  iprop((bigSep Finset.univ fun x : Cx => roundState ER (ringRd P) (kcell (c, x)) 0)
    ∗ ((bigSep Finset.univ fun x : Cx => atPos ER (kcell (c, x)) 0 ∅ 0) ∗ bigSep Finset.univ fun x : Cx => reached ER (kcell (c, x)) 0) ∗ toks c)

theorem toks_eq : bigSep ringToks (fun t => (dutyTok ER t.1 t.2.1 t.2.2 : sProp 𝕄)) = bigSep Finset.univ fun c : Dev nD => toks c := by
  unfold ringToks
  rw [bigSep_map, bigSep_univ_prod]
  refine bigSep_congr fun c _ => ?_
  refine (bigSep_univ_sum _).trans ?_
  rw [bigSep_univ_eq_bigSepL [false, true] (by decide) (by decide), over_sides]
  unfold toks
  have h (X Y Z : sProp 𝕄) : iprop((X ∗ Y) ∗ Z) = iprop(X ∗ Y ∗ Z) := Entails.antisymm BI.sep_assoc BI.sep_assoc'
  exact h _ _ _

theorem fund_ring : BI.own (ER (initOf ringCells ringToks)) ⊢ (|==> bigSep Finset.univ (G P) : sProp 𝕄) := by
  have hX (Φ : GSem nD τ sig → sProp 𝕄) : bigSep ringCells Φ = bigSep Finset.univ fun c : Dev nD => bigSep Finset.univ fun x : Cx => Φ (kcell (c, x)) := by
    unfold ringCells; rw [bigSep_map, bigSep_univ_prod]; rfl
  iintro HX
  imod (Rounds.fund ER (ringRd P) ringCells ringToks) $$ HX with ⟨Hst, Hr, Hat, Htok⟩
  imodintro
  ihave Hst' := (Entails.of_eq (hX fun g => roundState ER (ringRd P) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_eq (F := F))) $$ Htok
  unfold G; simp only [bigSep_sep']
  isplitl [Hst']; · iexact Hst'
  isplitl [Hat' Hr']
  · isplitl [Hat'] <;> iassumption
  iexact Htok'

/-! ## The semaphores become cells -/

theorem ownSemFacts : Pipeline.OwnSemFacts cfg0.spec osem := by decide

theorem unscopedSems0_eq (c : Dev nD) : (unscopedSems0 c : sProp 𝕄) = semVal (barCell c) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = bigSep Finset.univ fun k : Ch × Bool => semVal (cell c (some k)) 0 := rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun x : Cx => semVal (kcell (c, x)) 0 : sProp 𝕄) := by
  rw [ownSems0_eq, unscopedSems0_eq, over_cells]
  iintro ⟨H, Hb⟩
  isplitl [Hb]; · iexact Hb
  iexact H

theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun x : Cx => iprop(∃ κ : ℕ, cellInv ER (ringRd P) κ (kcell (c, x))))
          ∗ ((bigSep Finset.univ fun x : Cx => atPos ER (kcell (c, x)) 0 ∅ 0) ∗ bigSep Finset.univ fun x : Cx => reached ER (kcell (c, x)) 0) ∗ toks c) := by
  have hinv : iprop((bigSep Finset.univ fun x : Cx => semVal (kcell (c, x)) 0) ∗ bigSep Finset.univ fun x : Cx => roundState ER (ringRd P) (kcell (c, x)) 0)
      ⊢ (|={Set.univ}=> bigSep Finset.univ fun x : Cx => iprop(∃ κ : ℕ, cellInv ER (ringRd P) κ (kcell (c, x))) : sProp 𝕄) := by
    rw [← bigSep_sep']
    exact (bigSep_mono fun x _ => (Rounds.body_intro ER (ringRd P) (kcell (c, x))).trans inv_alloc).trans (bigSep_fupd _ _)
  unfold G
  iintro ⟨Hos, Hus, Hst, Hrest⟩
  imod hinv $$ [Hos Hus Hst] with Hinv
  · isplitr [Hst]
    · iapply (sems0 (F := F) c); isplitl [Hos] <;> iassumption
    iexact Hst
  imodintro
  isplitl [Hinv]; · iexact Hinv
  iexact Hrest

/-! ## Dealt round the ring -/

/-- A device and a channel: the device the channel's transfer lands on, and the channel. -/
def tgtAll : Dev nD × Ch ≃ Dev nD × Ch :=
  ⟨fun p => (tgt p.1 p.2, p.2), fun p => (org p.1 p.2, p.2), fun p => Prod.ext (org_tgt p.1 p.2) rfl, fun p => Prod.ext (tgt_org p.1 p.2) rfl⟩

theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    ← bigSep_univ_prod (fun p : Dev nD × Ch => (dutyTok ER (rCell p.1 p.2) 0 false : sProp 𝕄)),
    bigSep_univ_equiv tgtAll, bigSep_univ_prod]
  iintro ⟨H1, H2, H3, H4⟩
  isplitl [H2]; · iexact H2
  isplitl [H1]; · iexact H1
  isplitl [H3]; · iexact H3
  iexact H4

/-- What a device has of its own: its positions, and the tokens of the duties it pays. -/
def linear (c : Dev nD) : sProp 𝕄 :=
  iprop(atPos ER (barCell c) 0 ∅ 0
    ∗ ((bigSep Finset.univ fun ch : Ch => atPos ER (sCell c ch) 0 ∅ 0) ∗ bigSep Finset.univ fun ch : Ch => atPos ER (rCell c ch) 0 ∅ 0) ∗ payToks c)

/-- A device's ghost state: everybody's invariants under some names, and its own share. -/
def G' (c : Dev nD) : sProp 𝕄 := iprop(∃ K, records P K ∗ linear c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem to_linear (c : Dev nD) : iprop((bigSep Finset.univ fun x : Cx => atPos ER (kcell (c, x)) 0 ∅ 0) ∗ payToks (F := F) c) ⊢ linear c := by
  unfold linear
  rw [over_cells, over_sides]
  iintro ⟨⟨Hb, Hc⟩, Ht⟩
  isplitl [Hb]; · iexact Hb
  isplitl [Hc]; · iexact Hc
  iexact Ht

theorem regroup :
    (bigSep Finset.univ fun c : Dev nD => iprop((bigSep Finset.univ fun x : Cx => iprop(∃ κ : ℕ, cellInv ER (ringRd P) κ (kcell (c, x))))
          ∗ ((bigSep Finset.univ fun x : Cx => atPos ER (kcell (c, x)) 0 ∅ 0) ∗ bigSep Finset.univ fun x : Cx => reached ER (kcell (c, x)) 0) ∗ toks c) : sProp 𝕄)
      ⊢ bigSep Finset.univ (G' P) := by
  simp only [bigSep_sep']
  rw [← bigSep_univ_prod (fun p : Dev nD × Cx => iprop(∃ κ : ℕ, cellInv ER (ringRd P) κ (kcell p))),
    ← bigSep_univ_prod (fun p : Dev nD × Cx => (reached ER (kcell p) 0 : sProp 𝕄))]
  iintro ⟨HI, ⟨Hat, #HR⟩, Htok⟩
  ihave HK := (BI.bigSep_exists_pi Finset.univ (fun (p : Dev nD × Cx) (κ : ℕ) => (cellInv ER (ringRd P) κ (kcell p) : sProp 𝕄))) $$ HI
  icases HK with ⟨%K, #HI⟩
  ihave Htk := (toks_around (F := F)) $$ Htok
  iapply (with_persistent (R := records P K) (Φ := linear) (Ψ := G' P) fun c _ => by
    unfold G'
    iintro H; iexists K; iexact H)
  isplitr
  · unfold records; isplitl; · iexact HI
    iexact HR
  · iapply ((Entails.of_eq (bigSep_sep' Finset.univ (fun c : Dev nD => bigSep Finset.univ fun x : Cx => (atPos ER (kcell (c, x)) 0 ∅ 0 : sProp 𝕄)) payToks).symm).trans
      (bigSep_mono fun c _ => to_linear c))
    isplitl [Hat]; · iexact Hat
    iexact Htk

/-- The whole step, over all devices at once. -/
theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  ((bigSep_mono fun c _ => core_alloc P c).trans (bigSep_fupd _ _)).trans (BI.fupd_mono (regroup P))

/-! ## The credit of what the devices owe one another -/

theorem cred_owedL (c : Dev nD) : ∀ l : List Ch,
    (Pipeline.launchCred (fun d => owedL d l) c : sProp 𝕄) ⊢ bigSepL l fun ch => cred (tallyAt (rCell c ch) () N)
  | [] => by
    show Pipeline.launchCred (fun _ => 0) c ⊢ _
    rw [Pipeline.launchCred_zero]
    exact Entails.refl _
  | ch :: l => by
    rw [show (fun d : Dev nD => owedL d (ch :: l)) = (fun d => owedL d l + tallyAt (rCell (tgt d ch) ch) () N) from funext fun d => owedL_cons d ch l,
      Pipeline.launchCred_add, bigSepL_cons']
    iintro ⟨H1, H2⟩
    isplitl [H2]
    · iapply (Pipeline.launchCred_tallyAt (csem (some (ch, true))) (fun d => tgt d ch) (fun d => org d ch) (fun d => tgt_org d ch) (fun d => org_tgt d ch) () N c)
      iexact H2
    · iapply (cred_owedL c l); iexact H1

theorem creds (c : Dev nD) :
    (Pipeline.launchCred O₀ c : sProp 𝕄) ⊢ iprop(cred (tallyAt (barCell c) () 2) ∗ bigSep Finset.univ fun ch : Ch => cred (tallyAt (rCell c ch) () N)) := by
  rw [show (O₀ : Dev nD → CellTallies nD τ sig Unit)
      = (fun d => (owedL d chans + tallyAt (barCell (nxt d)) () 1) + tallyAt (barCell (prv d)) () 1) from rfl,
    Pipeline.launchCred_add, Pipeline.launchCred_add, over_list,
    show (2 : ℕ) = 1 + 1 from rfl, ← tallyAt_add]
  iintro ⟨⟨H1, H2⟩, H3⟩
  isplitl [H2 H3]
  · iapply (cred_add _ _).2
    isplitl [H2]
    · iapply (Pipeline.launchCred_tallyAt (csem none) nxt prv nxt_prv prv_nxt () 1 c); iexact H2
    · iapply (Pipeline.launchCred_tallyAt (csem none) prv nxt prv_nxt nxt_prv () 1 c); iexact H3
  · iapply (cred_owedL c chans); iexact H1

end Cert.KernelIdeal.RS

end
-- ==== Proof.Launch.lean ====
/-
The launch: what each device starts from, what it leaves, and the run of all sixteen.
-/
module

public import proofs.«01_k».proof.Proof.Cells
public import Idealize.ShloMosaic.Lib.Pipeline.CollectiveSegs
public import Idealize.ShloMosaic.Lib.Quiescent

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)
variable (m : (ℓ : Loc nD τ sig) → Buf (Elt F) ℓ) (ρ : Dev nD → PrngReg)

/-- The memory at the start: any contents, every counter zero. -/
def s₀ : MemSt nD τ sig (Elt F) := ⟨m, fun _ => 0, ρ⟩

/-- The operands a device's body finds staged, and their product. -/
def opA (c : Dev nD) : Vec F S1536x768 .bf16 :=
  (win0_0.blk (0 : Fin 1)).view.read (Elt F) ((s₀ m ρ).mem ((c : Thread nD τ).loc main_arg0))
def opB (c : Dev nD) : Vec F S768x1536 .bf16 :=
  (win0_1.blk (0 : Fin 1)).view.read (Elt F) ((s₀ m ρ).mem ((c : Thread nD τ).loc main_arg1))
def prod (c : Dev nD) : Vec F S1536x1536 .f32 := k0_pay2 (opA m ρ c) (opB m ρ c)

/-- What a device starts from beside its buffers. -/
def start (c : Dev nD) : sProp 𝕄 :=
  iprop(G' (prod m ρ) c ∗ (cred (tallyAt (barCell c) () 2) ∗ bigSep Finset.univ fun ch : Ch => cred (tallyAt (rCell c ch) () N)) ∗ levAts L lv)

/-- The slots of its four buffers of blocks. -/
def slots (c : Dev nD) : sProp 𝕄 :=
  iprop((bigSep Finset.univ fun ch : Ch => free (F := F) c (src ch)) ∗ bigSep Finset.univ fun ch : Ch => free (F := F) c (dst ch))

def Φ₀ (c : Dev nD) : sProp 𝕄 := iprop(start m ρ c ∗ free c pM ∗ slots c)
def Φ₁ (c : Dev nD) : sProp 𝕄 := iprop(free (F := F) c pM ∗ semVal (barCell c) 0 ∗ bigSep Finset.univ (Left c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => opA m ρ c
    | ⟨1, _⟩ => opB m ρ c
    | ⟨2, _⟩ => outAt (prod m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body's obligation -/

theorem before0 (c : Dev nD) (d) : (dats m ρ 0 c).before (0 : Fin 3) t0_0 d = opA m ρ c := by
  unfold Dat.before; rw [if_pos (fetch0_0 t0_0)]; rfl
theorem before1 (c : Dev nD) (d) : (dats m ρ 0 c).before (1 : Fin 3) t0_0 d = opB m ρ c := by
  unfold Dat.before; rw [if_pos (fetch0_1 t0_0)]; rfl

def bodyPre (c : Dev nD) : sProp 𝕄 :=
  iprop(Φ₀ m ρ c ∗ (dats m ρ 0 c).owesAt () t0_0.castSucc
    ∗ (∃ d, holds c aM ((dats m ρ 0 c).before (0 : Fin 3) t0_0 d))
    ∗ (∃ d, holds c bM ((dats m ρ 0 c).before (1 : Fin 3) t0_0 d))
    ∗ (∃ d, holds c oM ((dats m ρ 0 c).before (2 : Fin 3) t0_0 d)))
def bodyPost (c : Dev nD) : sProp 𝕄 :=
  iprop(Φ₁ c ∗ (dats m ρ 0 c).owesAt () t0_0.succ ∗ holds c aM (opA m ρ c) ∗ holds c bM (opB m ρ c) ∗ holds c oM (outAt (prod m ρ) c))

/-- What the body is given, as the run takes it. -/
theorem pre_run (K : Dev nD × Cx → ℕ) (c : Dev nD) :
    iprop((records (prod m ρ) K ∗ linear c)
        ∗ ((cred (tallyAt (barCell c) () 2) ∗ bigSep Finset.univ fun ch : Ch => cred (tallyAt (rCell c ch) () N)) ∗ levAts L lv)
        ∗ (free c pM ∗ slots c) ∗ (∃ W, owes (c : Thread nD τ) (O₀ c) W) ∗ holds c aM (opA m ρ c) ∗ holds c bM (opB m ρ c) ∗ free c oM)
      ⊢ iprop((records (prod m ρ) K ∗ levAts L lv) ∗ (∃ W, owes (c : Thread nD τ) (O₀ c) W)
        ∗ (atPos ER (barCell c) 0 ∅ 0 ∗ dutyTok ER (barCell (prv c)) 0 true ∗ dutyTok ER (barCell (nxt c)) 0 false ∗ cred (tallyAt (barCell c) () 2))
        ∗ (bigSep Finset.univ fun ch : Ch => free (F := F) c (dst ch)) ∗ Bufs c (opA m ρ c) (opB m ρ c)) := by
  have hHave : iprop((bigSep Finset.univ fun ch : Ch => atPos ER (sCell c ch) 0 ∅ 0) ∗ (bigSep Finset.univ fun ch : Ch => atPos ER (rCell c ch) 0 ∅ 0)
      ∗ (bigSep Finset.univ fun ch : Ch => dutyTok ER (sCell c ch) 0 false) ∗ (bigSep Finset.univ fun ch : Ch => dutyTok ER (rCell (tgt c ch) ch) 0 false)
      ∗ (bigSep Finset.univ fun ch : Ch => cred (tallyAt (rCell c ch) () N)) ∗ bigSep Finset.univ fun ch : Ch => free (F := F) c (src ch))
      ⊢ bigSepL chans (Have (F := F) c) := by
    rw [← over_list]
    unfold Have
    simp only [bigSep_sep']
    exact Entails.refl _
  unfold linear payToks slots Bufs
  iintro ⟨⟨HR, Hb, ⟨Hs, Hr⟩, Ht, Hf, Hts, Htr⟩, ⟨⟨Hc, Hcr⟩, HL⟩, ⟨HP, Hsrc, Hdst⟩, HO, HA, HB, Ho⟩
  isplitl [HR HL]; · isplitl [HR] <;> iassumption
  isplitl [HO]; · iexact HO
  isplitl [Hb Ht Hf Hc]
  · isplitl [Hb]; · iexact Hb
    isplitl [Ht]; · iexact Ht
    isplitl [Hf] <;> iassumption
  isplitl [Hdst]; · iexact Hdst
  isplitl [HA]; · iexact HA
  isplitl [HB]; · iexact HB
  isplitl [HP]; · iexact HP
  isplitr [Ho]
  · iapply hHave
    isplitl [Hs]; · iexact Hs
    isplitl [Hr]; · iexact Hr
    isplitl [Hts]; · iexact Hts
    isplitl [Htr]; · iexact Htr
    isplitl [Hcr] <;> iassumption
  iexact Ho

/-- What the run ends with, as the body has to leave it. -/
theorem run_post (c : Dev nD) : Ending (prod m ρ) c (opA m ρ c) (opB m ρ c) chans.reverse ⊢ bodyPost m ρ c := by
  unfold Ending bodyPost Φ₁ Dat.owesAt Pipeline.owesWithin
  rw [over_list_rev]
  iintro ⟨Ho, HA, HB, ⟨%W, HO⟩, HP, Hb, Hl⟩
  isplitl [HP Hb Hl]
  · isplitl [HP]; · iexact HP
    isplitl [Hb] <;> iassumption
  isplitl [HO]
  · iexists W
    isplitr
    · ipureintro; exact fun _ _ => Or.inl trivial
    · iexact HO
  isplitl [HA]; · iexact HA
  isplitl [HB] <;> iassumption

theorem body_run (c : Dev nD) : bodyPre m ρ c ⊢ run c (fun _ => bodyPost m ρ c) (bodyAt0 (F := F) t0_0) := by
  unfold bodyPre Φ₀ start G' Dat.owesAt Pipeline.owesWithin
  iintro ⟨⟨⟨⟨%K, HG⟩, Hc⟩, HS⟩, ⟨%W, -, HO⟩, ⟨%d0, HA⟩, ⟨%d1, HB⟩, ⟨%d2, Ho⟩⟩
  rw [before0, before1]
  iapply ((pre_run m ρ K c).trans (run_body (P := prod m ρ) (K := K) (c := c) (Q := fun _ => bodyPost m ρ c) (opA m ρ c) (opB m ρ c) rfl (run_post m ρ c)))
  isplitl [HG]; · iexact HG
  isplitl [Hc]; · iexact Hc
  isplitl [HS]; · iexact HS
  isplitl [HO]; · iexists W; iexact HO
  isplitl [HA]; · iexact HA
  isplitl [HB]; · iexact HB
  iapply (holds_free c oM _); iexact Ho

theorem body_obligation (c : Dev nD) : BodyObligation (dats (F := F) m ρ 0 c) (defs₀ (F := F)) 𝒱₀ () Set.univ :=
  fun t => by
    rw [fin_N0 t, bigSep_W0, bigSep_W0]
    exact body_run m ρ c

/-! ## Entering and leaving -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (prod m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem free_whole (c : Dev nD) {s : Shape} {e : EltTy} (b : Memref sig .tc .vmem s e) (h : b.view.set = Finset.univ) :
    free (F := F) c b = iprop(∃ f, b.view.loc (c : Thread nD τ) ↦{fullShare} f) := by
  unfold free; rw [h]

theorem slots_intro (c : Dev nD) :
    iprop((∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f)
        ∗ (∃ f : Buf (Elt F) ((c : Thread nD τ).loc cc0_scratch4), ((c : Thread nD τ).loc cc0_scratch4) ↦{fullShare} f)) ⊢ slots c := by
  unfold slots
  rw [over_channels, over_channels]
  iintro ⟨H1, H2, H3, H4⟩
  isplitl [H1 H3]
  · isplitl [H1]
    · iapply (cut fsM (View.set_whole _) c); iexact H1
    · iapply (cut bsM (View.set_whole _) c); iexact H3
  · isplitl [H2]
    · iapply (cut frM (View.set_whole _) c); iexact H2
    · iapply (cut brM (View.set_whole _) c); iexact H4

include m in
theorem slots_exit (c : Dev nD) :
    slots c ⊢ iprop((∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f)
        ∗ (∃ f : Buf (Elt F) ((c : Thread nD τ).loc cc0_scratch4), ((c : Thread nD τ).loc cc0_scratch4) ↦{fullShare} f)) := by
  unfold slots
  rw [over_channels, over_channels]
  iintro ⟨⟨H1, H3⟩, H2, H4⟩
  isplitl [H1]; · iapply (put fsM (View.set_whole _) c (m ((c : Thread nD τ).loc cc0_scratch1))); iexact H1
  isplitl [H2]; · iapply (put frM (View.set_whole _) c (m ((c : Thread nD τ).loc cc0_scratch2))); iexact H2
  isplitl [H3]; · iapply (put bsM (View.set_whole _) c (m ((c : Thread nD τ).loc cc0_scratch3))); iexact H3
  iapply (put brM (View.set_whole _) c (m ((c : Thread nD τ).loc cc0_scratch4))); iexact H4

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  rw [free_whole c pM (View.set_whole _)]
  iintro ⟨Hs, -, H0, Hr⟩
  isplitl [Hs]; · iexact Hs
  isplitl [H0]; · iexact H0
  iapply (slots_intro c); iexact Hr

theorem left_split (c : Dev nD) : (bigSep Finset.univ (Left (F := F) c)) ⊢ iprop((bigSep Finset.univ fun k : Ch × Bool => semVal (cell c (some k)) 0) ∗ slots c) := by
  unfold Left slots
  rw [over_sides]
  simp only [bigSep_sep']
  iintro ⟨Hv, Hs, Hd⟩
  isplitl [Hv]; · iexact Hv
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  rw [free_whole c pM (View.set_whole _)]
  iintro ⟨H0, Hb, Hl⟩
  ihave H := (left_split (F := F) c) $$ Hl
  icases H with ⟨Hv, Hs⟩
  isplitl [Hb]; · iexact Hb
  isplitl [Hv]; · iexact Hv
  isplitl [H0]; · iexact H0
  iapply (slots_exit m c); iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run of all devices -/

/-- A windowed array's contents after the run. -/
def finalA (c : Dev nD) (w : Fin cfg0.W) : Buf (Elt F) ((cfg0.win w).arr.view.loc (c : Thread nD τ)) := (dats m ρ 0 c).arrAt w cfg0.N

def QC (r : PUnit × MemSt nD τ sig (Elt F)) : Prop :=
  ∀ c : Dev nD, ∀ w : Fin cfg0.W, r.2.mem ((cfg0.win w).arr.view.loc (c : Thread nD τ)) = finalA m ρ c w

set_option maxRecDepth 8000 in
/-- For any float values and any memory at the start, every execution of the sixteen kernels ends, each device's
    windowed arrays as computed, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (prod m ρ)) (G' := G' (prod m ρ)) (u₀ := u₀)
    (hu₀ := by
      unfold u₀
      iintro Hu
      ihave H := (ownU_pair _ _) $$ Hu
      icases H with ⟨HP, HX⟩
      imod (fund_ring (prod m ρ)) $$ HX with HG
      imodintro
      isplitl [HP] <;> iassumption)
    (hglob := glob (prod m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands after the run hold what they held. -/
theorem finalA_in0 (c : Dev nD) : finalA m ρ c (0 : Fin 3) = m ((c : Thread nD τ).loc main_arg0) :=
  (dats m ρ 0 c).arrAt_in (0 : Fin 3) rfl _
theorem finalA_in1 (c : Dev nD) : finalA m ρ c (1 : Fin 3) = m ((c : Thread nD τ).loc main_arg1) :=
  (dats m ρ 0 c).arrAt_in (1 : Fin 3) rfl _

end Cert.KernelIdeal.RS

end
-- ==== Proof.Result.lean ====
/-
The run read at the program's arguments and result.
-/
module

public import proofs.«01_k».proof.Proof.Launch

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat)

variable (m : (ℓ : Loc nD τ sig) → Buf (Elt F) ℓ) (ρ : Dev nD → PrngReg)

/-- The operands staged are the whole arguments. -/
theorem opA_eq (c : Dev nD) : opA m ρ c = m ((c : Thread nD τ).loc main_arg0) :=
  Memref.read_access_unit_zero (Elt F) main_arg0 (funext fun a => by fin_cases a <;> rfl) _ _
theorem opB_eq (c : Dev nD) : opB m ρ c = m ((c : Thread nD τ).loc main_arg1) :=
  Memref.read_access_unit_zero (Elt F) main_arg1 (funext fun a => by fin_cases a <;> rfl) _ _

/-- The result array ends holding what the device's run computed: its one block is the whole array. -/
theorem finalA_out (c : Dev nD) : finalA m ρ c (2 : Fin 3) = outAt (prod m ρ) c := by
  have hz : (fun a => win0_2.index t0_0 a * main_v1.ty.shape.size a) = fun _ => 0 := funext fun a => by fin_cases a <;> rfl
  refine (dats m ρ 0 c).arrAt_eq_of_cover (2 : Fin 3) (outAt (prod m ρ) c) (fun t _ => ?_) fun i => ⟨t0_0, flush0_2 t0_0, ?_⟩
  · rw [fin_N0 t]
    exact (Memref.read_access_unit_zero (Elt F) main_v1 hz (fun a => by rw [congrFun hz a]; simp) (outAt (prod m ρ) c)).symm
  · show i ∈ ((View.whole main_v1).slice (win0_2.rect t0_0)).set
    rw [View.set_slice_whole, Rect.mem_set_unit]
    intro a
    have h0 : (i 0 : Nat) < 96 := (i 0).isLt
    have h1 : (i 1 : Nat) < 1536 := (i 1).isLt
    match a with
    | ⟨0, _⟩ => exact ⟨Nat.zero_le _, lt_of_lt_of_eq h0 (show (96:Nat) = win0_2.kind.off (win0_2.index t0_0 0) (win0_2.size 0) + win0_2.xsize (grid0.coords t0_0) 0 by decide +kernel)⟩
    | ⟨1, _⟩ => exact ⟨Nat.zero_le _, lt_of_lt_of_eq h1 (show (1536:Nat) = win0_2.kind.off (win0_2.index t0_0 1) (win0_2.size 1) + win0_2.xsize (grid0.coords t0_0) 1 by decide +kernel)⟩

/-- The run, read at the arguments and the result. -/
theorem run_read : θ_run defs (onTc (τ := τ) (main (F := F))) ⟨m, fun _ => 0, ρ⟩ (fun r =>
    (∀ c : Dev nD, r.2.mem ((c : Thread nD τ).loc main_v1) = outAt (fun d : Dev nD => k0_pay2 (m ((d : Thread nD τ).loc main_arg0)) (m ((d : Thread nD τ).loc main_arg1))) c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) := by
  have hP : prod m ρ = fun d : Dev nD => k0_pay2 (m ((d : Thread nD τ).loc main_arg0)) (m ((d : Thread nD τ).loc main_arg1)) := by
    funext d; unfold prod; rw [opA_eq, opB_eq]
  refine (θ_run defs _ _).mono (fun r h => ⟨fun c => ⟨?_, ?_, ?_⟩, h.2⟩) (run_main m ρ)
  · rw [← hP]; exact (h.1 c (2 : Fin 3)).trans (finalA_out m ρ c)
  · exact (h.1 c (0 : Fin 3)).trans (finalA_in0 m ρ c)
  · exact (h.1 c (1 : Fin 3)).trans (finalA_in1 m ρ c)

end Cert.KernelIdeal.RS

end
-- ==== Proof.Sum.lean ====
/-
The ring's sum over the reals.

Rounding is the identity there, so a transfer carries the plain sum of the blocks it has gone past, and the result of
a device is the sum of all the devices' products at its block of rows.
-/
module

public import proofs.«01_k».proof.Proof.Contents
public import Idealize.ShloMosaic.PureOps.Ideal.Laws
public import Mathlib.Tactic.Abel

@[expose] public section

noncomputable section

namespace Cert.KernelIdeal.RS

open Cert.KernelIdeal Cert.KernelIdeal.Gen
open Idealize.ShloMosaic
open scoped BigOperators

variable (P : Dev nD → Vec Ideal S1536x1536 .f32) (x : S96x1536.Idx)

/-- Device `d`'s product at an element of the `i`-th block of rows. -/
def part (d i : Dev nD) : EReal := rowsAt (P d) i x

/-- A transfer forward carries the products of the devices it has gone past. -/
theorem fsent_sum (t : ℕ) (ht : t < 7) (c : Dev nD) :
    (fsent P t c x : EReal) = ∑ s ∈ Finset.range (t + 1), part P x (shift c (16 - s)) (shift c (7 - t)) := by
  induction t generalizing c with
  | zero =>
    rw [Finset.sum_range_one, show shift c (16 - 0) = c from Fin.ext (by have : c.val < 16 := c.isLt; show (c.val + (16 - 0)) % 16 = c.val; omega)]
    rfl
  | succ t ih =>
    rw [Finset.sum_range_succ', show shift c (16 - 0) = c from Fin.ext (by have : c.val < 16 := c.isLt; show (c.val + (16 - 0)) % 16 = c.val; omega)]
    refine Eq.trans ?_ (add_comm _ _)
    show part P x c (shift c (7 - (t + 1))) + (fsent P t (prv c) x : EReal) = _
    rw [ih (by omega) (prv c)]
    congr 1
    refine Finset.sum_congr rfl fun s hs => ?_
    have hs' := Finset.mem_range.1 hs
    congr 1
    · exact Fin.ext (by show ((c.val + 15) % 16 + (16 - s)) % 16 = (c.val + (16 - (s + 1))) % 16; omega)
    · exact Fin.ext (by show ((c.val + 15) % 16 + (7 - t)) % 16 = (c.val + (7 - (t + 1))) % 16; omega)

/-- So does a transfer backward. -/
theorem bsent_sum (t : ℕ) (ht : t < 8) (c : Dev nD) :
    (bsent P t c x : EReal) = ∑ s ∈ Finset.range (t + 1), part P x (shift c s) (shift c (8 + t)) := by
  induction t generalizing c with
  | zero =>
    rw [Finset.sum_range_one, show shift c 0 = c from Fin.ext (by have : c.val < 16 := c.isLt; show (c.val + 0) % 16 = c.val; omega)]
    rfl
  | succ t ih =>
    rw [Finset.sum_range_succ', show shift c 0 = c from Fin.ext (by have : c.val < 16 := c.isLt; show (c.val + 0) % 16 = c.val; omega)]
    refine Eq.trans ?_ (add_comm _ _)
    show part P x c (shift c (8 + (t + 1))) + (bsent P t (nxt c) x : EReal) = _
    rw [ih (by omega) (nxt c)]
    congr 1
    refine Finset.sum_congr rfl fun s hs => ?_
    congr 1
    · exact Fin.ext (by show ((c.val + 1) % 16 + s) % 16 = (c.val + (s + 1)) % 16; omega)
    · exact Fin.ext (by show ((c.val + 1) % 16 + (8 + t)) % 16 = (c.val + (8 + (t + 1))) % 16; omega)

/-- Going round the ring from a device meets each device once. -/
theorem shift_bijective (c : Dev nD) : Function.Bijective fun k : Fin 16 => shift c k.val :=
  Finite.injective_iff_bijective.1 fun k l h => Fin.ext (by
    have h' : (c.val + k.val) % 16 = (c.val + l.val) % 16 := congrArg Fin.val h
    have := k.isLt; have := l.isLt; omega)

/-- A sum over the devices, taken round the ring from one: itself, the eight after it and the seven before it. -/
theorem sum_round (f : Dev nD → EReal) (c : Dev nD) :
    ∑ d, f d = f c + (∑ s ∈ Finset.range 7, f (shift c (15 - s))) + ∑ s ∈ Finset.range 8, f (shift c (s + 1)) := by
  have h0 : shift c 0 = c := Fin.ext (by have : c.val < 16 := c.isLt; show (c.val + 0) % 16 = c.val; omega)
  have hr : ∑ s ∈ Finset.range 7, f (shift c (15 - s)) = ∑ s ∈ Finset.range 7, f (shift c (8 + s + 1)) := by
    rw [← Finset.sum_range_reflect (fun s => f (shift c (15 - s))) 7]
    refine Finset.sum_congr rfl fun s hs => ?_
    have := Finset.mem_range.1 hs
    exact congrArg (fun k => f (shift c k)) (show 15 - (7 - 1 - s) = 8 + s + 1 by omega)
  rw [hr, ← (shift_bijective c).sum_comp f, Fin.sum_univ_eq_sum_range (fun k => f (shift c k)) 16,
    Finset.sum_range_succ' _ 15, h0, Finset.sum_range_add (fun k => f (shift c (k + 1))) 8 7]
  abel

/-- The result of a device: the sum over the devices of their products at its rows. -/
theorem outAt_sum (c : Dev nD) : (outAt P c x : EReal) = ∑ d, part P x d c := by
  rw [sum_round (fun d => part P x d c) c]
  show part P x c c + (fsent P 6 (prv c) x : EReal) + (bsent P 7 (nxt c) x : EReal) = _
  rw [fsent_sum P x 6 (by omega), bsent_sum P x 7 (by omega)]
  congr 1
  · congr 1
    refine Finset.sum_congr rfl fun s hs => ?_
    have hs' := Finset.mem_range.1 hs
    congr 1
    · exact Fin.ext (by show ((c.val + 15) % 16 + (16 - s)) % 16 = (c.val + (15 - s)) % 16; omega)
    · exact Fin.ext (by have : c.val < 16 := c.isLt; show ((c.val + 15) % 16 + (7 - 6)) % 16 = c.val; omega)
  · refine Finset.sum_congr rfl fun s hs => ?_
    congr 1
    · exact Fin.ext (by show ((c.val + 1) % 16 + s) % 16 = (c.val + (s + 1)) % 16; omega)
    · exact Fin.ext (by have : c.val < 16 := c.isLt; show ((c.val + 1) % 16 + (8 + 7)) % 16 = c.val; omega)

end Cert.KernelIdeal.RS

end
-- ==== Proof.Ref.lean ====
/-
The reference's run: one product of the whole arrays, on one device, rounded to bfloat16 and widened again.
-/
module

public import proofs.«01_k».proof.Proof.Gen.ReferenceIdeal
public import Idealize.ShloMosaic.Lib.StableHlo.Run

@[expose] public section

noncomputable section

namespace Cert.ReferenceIdeal.RS

open Cert.ReferenceIdeal Cert.ReferenceIdeal.Gen
open Idealize.ShloMosaic Idealize.ShloMosaic.TcCoe Idealize.ShloMosaic.StableHlo Idealize.SL.Sem

variable {F : FTy → Type} [FloatOps F]

/-- The reference's result from its arguments: their product, taken in float32, rounded to bfloat16. -/
def out (A : FVec F S1536x12288 .bf16) (B : FVec F S12288x1536 .bf16) : FVec F S1536x1536 .f32 :=
  extf .f32 (truncf .bf16 (Host.dotGeneral dot_S1536x12288_S12288x1536_S1536x1536_1_0_0_1_n_n none
    (extf .f32 A bitsLt_bf16_f32 : FVec F S1536x12288 .f32) (extf .f32 B bitsLt_bf16_f32 : FVec F S12288x1536 .f32) : FVec F S1536x1536 .f32)
    bitsLt_bf16_f32 : FVec F S1536x1536 .bf16) bitsLt_bf16_f32

/-- The reference's five operations. -/
abbrev ops : List (HloOp τ sig (Elt F)) :=
  [ unary main_arg0 main_v0 ((extf .f32 · bitsLt_bf16_f32) : (⟨S1536x12288, .bf16⟩ : BufTy).Contents (Elt F) → (⟨S1536x12288, .f32⟩ : BufTy).Contents (Elt F)),
    unary main_arg1 main_v1 ((extf .f32 · bitsLt_bf16_f32) : (⟨S12288x1536, .bf16⟩ : BufTy).Contents (Elt F) → (⟨S12288x1536, .f32⟩ : BufTy).Contents (Elt F)),
    binary main_v0 main_v1 main_v2 ((fun l r => Host.dotGeneral dot_S1536x12288_S12288x1536_S1536x1536_1_0_0_1_n_n none l r) :
      (⟨S1536x12288, .f32⟩ : BufTy).Contents (Elt F) → (⟨S12288x1536, .f32⟩ : BufTy).Contents (Elt F) → (⟨S1536x1536, .f32⟩ : BufTy).Contents (Elt F)),
    unary main_v2 main_v3 ((truncf .bf16 · bitsLt_bf16_f32) : (⟨S1536x1536, .f32⟩ : BufTy).Contents (Elt F) → (⟨S1536x1536, .bf16⟩ : BufTy).Contents (Elt F)),
    unary main_v3 main_v4 ((extf .f32 · bitsLt_bf16_f32) : (⟨S1536x1536, .bf16⟩ : BufTy).Contents (Elt F) → (⟨S1536x1536, .f32⟩ : BufTy).Contents (Elt F)) ]

theorem main_eq (c : Dev nD) : main (F := F) c = seq ops := rfl

theorem out_eq (V : Valuation τ sig (Elt F)) :
    after ops V (main_v4 : DevRef τ sig) = out (V (main_arg0 : DevRef τ sig)) (V (main_arg1 : DevRef τ sig)) := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

/-- The reference declares no scoped buffer, and no semaphore. -/
theorem no_scoped : (Finset.univ.filter fun b : Ref sig .tc => b.isScoped) = ∅ := by decide
theorem no_sems : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., unary_bufs_sub .., unary_bufs_sub ..⟩

/-- The run: the result is the product, and the arguments are unchanged. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v4).trans (out_eq _), (h c main_arg0).trans (arg0_eq _), (h c main_arg1).trans (arg1_eq _)⟩)
    (run_seq no_scoped no_sems defs main (fun _ => ops) main_eq (fun _ => ops_sub) m ρ)

end Cert.ReferenceIdeal.RS

end
-- ==== Proof.Value.lean ====
/-
The kernel's result is the reference's, block by block.

Device `d` multiplies columns `768 d …` of the first array by rows `768 d …` of the second. The sum over the devices of
these products is the product of the whole arrays, its sum over 12288 positions cut into 16 runs of 768.
-/
module

public import proofs.«01_k».proof.Proof.Sum
public import proofs.«01_k».proof.Proof.Ref
public import Idealize.ShloMosaic.Lib.MatmulPlain
public import Idealize.ShloMosaic.Lib.StackMember
public import Idealize.ShloMosaic.Lib.Layout

@[expose] public section

noncomputable section

namespace Cert.KernelIdeal.RS

open Cert.KernelIdeal Cert.KernelIdeal.Gen
open Idealize.ShloMosaic Idealize.ShloMosaic.ValueIdx
open scoped BigOperators

/-- Place `k` of the `d`-th of 16 runs of 768. -/
def place (d : Fin 16) (k : Fin 768) : Fin 12288 := ⟨768 * d.val + k.val, by omega⟩

/-- A sum over 12288 places, cut into 16 runs of 768. -/
theorem sum_places (f : Fin 12288 → EReal) : ∑ k, f k = ∑ d : Fin 16, ∑ k : Fin 768, f (place d k) := by
  rw [← (finProdFinEquiv (m := 16) (n := 768)).sum_comp f, Fintype.sum_prod_type]
  refine Finset.sum_congr rfl fun d _ => Finset.sum_congr rfl fun k _ => congrArg f (Fin.ext ?_)
  show k.val + 768 * d.val = 768 * d.val + k.val
  omega

/-- A device's product, read at an element. -/
theorem prod_apply (A : Vec Ideal S1536x768 .bf16) (B : Vec Ideal S768x1536 .bf16) (r : Fin 1536) (j : Fin 1536) :
    (k0_pay2 A B (ix2 r j) : EReal) = ∑ k : Fin 768, A (ix2 r k) * B (ix2 k j) := by
  have h : (k0_pay2 A B (ix2 r j) : EReal)
      = FloatOps.matmul (φ₁ := .bf16) (φ₂ := .bf16) (DotDims.plain 1536 768 1536) none (A : FVec Ideal ⟨2, ![1536, 768]⟩ .bf16) (B : FVec Ideal ⟨2, ![768, 1536]⟩ .bf16) (constant S1536x1536 .f32 0x00000000#32) (ix2 r j) := by
    unfold k0_pay2
    rw [shapeCast_self, shapeCast_self, shapeCast_self]
    rfl
  rw [h, Ideal.matmul_plain_apply]
  show Ideal.ofBits .f32 0x00000000#32 + _ = _
  rw [Ideal.ofBits_zero_f32, zero_add]

/-- The reference's product, read at an element. -/
theorem ref_apply (A : FVec Ideal ⟨2, ![1536, 12288]⟩ .bf16) (B : FVec Ideal ⟨2, ![12288, 1536]⟩ .bf16) (r : Fin 1536) (j : Fin 1536) :
    (Cert.ReferenceIdeal.RS.out A B (ix2 r j) : EReal) = ∑ k : Fin 12288, A (ix2 r k) * B (ix2 k j) :=
  StackMember.dotGeneral_plain_apply (m := 1536) (n := 1536) none (extf .f32 A Cert.ReferenceIdeal.Gen.bitsLt_bf16_f32)
    (extf .f32 B Cert.ReferenceIdeal.Gen.bitsLt_bf16_f32) r j

/-- The devices' results are the blocks of the reference's. -/
theorem outAt_block (A : FVec Ideal ⟨2, ![1536, 12288]⟩ .bf16) (B : FVec Ideal ⟨2, ![12288, 1536]⟩ .bf16)
    (a : Dev nD → Vec Ideal S1536x768 .bf16) (b : Dev nD → Vec Ideal S768x1536 .bf16)
    (ha : ∀ d, a d = Layout.block ⟨2, ![1536, 768]⟩ ⟨2, ![1536, 12288]⟩ 1 16 d A)
    (hb : ∀ d, b d = Layout.block ⟨2, ![768, 1536]⟩ ⟨2, ![12288, 1536]⟩ 0 16 d B) (c : Dev nD) :
    outAt (fun d => k0_pay2 (a d) (b d)) c
      = Layout.block ⟨2, ![96, 1536]⟩ ⟨2, ![1536, 1536]⟩ 0 16 c (Cert.ReferenceIdeal.RS.out A B) := by
  funext x
  have hc : c.val < 16 := c.isLt
  have hx : (x 0).val < 96 := (x 0).isLt
  let r : Fin 1536 := ⟨96 * c.val + (x 0).val, by omega⟩
  let j : Fin 1536 := x 1
  refine (outAt_sum _ x c).trans ?_
  have hR : (Layout.block ⟨2, ![96, 1536]⟩ ⟨2, ![1536, 1536]⟩ 0 16 c (Cert.ReferenceIdeal.RS.out A B) : S96x1536.Idx → EReal) x
      = Cert.ReferenceIdeal.RS.out A B (ix2 r j) := by
    rw [Layout.block_apply]
    refine congrArg _ (funext fun e => Fin.ext ?_)
    match e with
    | ⟨0, _⟩ => show c.val * 96 + (x 0).val = 96 * c.val + (x 0).val; omega
    | ⟨1, _⟩ => rfl
  rw [hR, ref_apply, sum_places]
  refine Finset.sum_congr rfl fun d _ => ?_
  have hP : part (fun d => k0_pay2 (a d) (b d)) x d c = (k0_pay2 (a d) (b d) (ix2 r j) : EReal) := by
    refine congrArg (k0_pay2 (a d) (b d)) (funext fun e => Fin.ext ?_)
    match e with
    | ⟨0, _⟩ => show 96 * c.val + 1 * (x 0).val = 96 * c.val + (x 0).val; omega
    | ⟨1, _⟩ => show 0 + 1 * (x 1).val = (x 1).val; omega
  rw [hP, prod_apply]
  refine Finset.sum_congr rfl fun k _ => ?_
  refine congrArg₂ (fun u v : EReal => u * v) ?_ ?_
  · rw [ha]
    refine congrArg A (funext fun e => Fin.ext ?_)
    match e with
    | ⟨0, _⟩ => rfl
    | ⟨1, _⟩ => show d.val * 768 + k.val = 768 * d.val + k.val; omega
  · rw [hb]
    refine congrArg B (funext fun e => Fin.ext ?_)
    match e with
    | ⟨0, _⟩ => show d.val * 768 + k.val = 768 * d.val + k.val; omega
    | ⟨1, _⟩ => rfl

end Cert.KernelIdeal.RS

end
-- ==== Proof.lean ====
/-
The claim: every program ends with its arguments unchanged and its semaphores at zero, and over the reals each device's
result is its block of the reference's product.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Result
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

section Same

variable {F : FTy → Type} [FloatOps F]

/-- The kernel and its reading over the reals have the same body table: the bodies agree at the one label, -/
theorem bodies_same : Cert.Kernel.defs₀ (F := F) = Cert.KernelIdeal.defs₀ (F := F) := by
  unfold Cert.Kernel.defs₀ Cert.KernelIdeal.defs₀
  refine congrArg _ (funext fun l => funext fun x => ?_)
  match l, x with
  | 0, (t, s) => rfl

/-- and the calls made of them are the same. -/
theorem defs_same : Cert.Kernel.defs (F := F) = Cert.KernelIdeal.defs (F := F) :=
  congrArg (Pipeline.defs (Cert.KernelIdeal.pcfgs (F := F))) bodies_same

end Same

/-- The kernel's arguments and semaphores. It is the same program as the one read over the reals, so the run proved for
    every float instance serves. -/
theorem frame_k : Cert.quiescent_Kernel (hKernel := Cert.Kernel.Gen.facts) := by
  intro m ρ _
  have h := (θ_run Cert.KernelIdeal.defs _ _).mono (fun r h => And.intro (fun c => (h.1 c).2) h.2) (Cert.KernelIdeal.RS.run_read (F := Bits) m ρ)
  rw [← defs_same] at h
  exact h

/-- The same over the reals. -/
theorem frame_ki : Cert.quiescent_KernelIdeal (hKernelIdeal := Cert.KernelIdeal.Gen.facts) := by
  intro m ρ _
  exact (θ_run Cert.KernelIdeal.defs _ _).mono (fun r h => ⟨fun c => (h.1 c).2, h.2⟩) (Cert.KernelIdeal.RS.run_read (F := Ideal) m ρ)

/-- The reference's arguments; it has no semaphores. -/
theorem frame_r : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.RS.run_main (F := Ideal) m ρ)

/-- Each device's result is its block of the reference's. -/
theorem value : Cert.algebraic_KernelIdeal_ReferenceIdeal (hKernelIdeal := Cert.KernelIdeal.Gen.facts)
    (hReferenceIdeal := Cert.ReferenceIdeal.Gen.facts) := by
  intro m ρ m' ρ' _ hm
  refine ⟨_, (θ_run Cert.KernelIdeal.defs _ _).mono (fun r h c => ⟨(h.1 c).1.trans ?_, (h.1 c).2⟩)
      (Cert.KernelIdeal.RS.run_read (F := Ideal) m ρ),
    (θ_run Cert.ReferenceIdeal.defs _ _).mono (fun r h => h 0) (Cert.ReferenceIdeal.RS.run_main (F := Ideal) m' ρ')⟩
  exact Cert.KernelIdeal.RS.outAt_block _ _ _ _ (fun d => (hm d).1) (fun d => (hm d).2) c

theorem claim : Cert.Claim :=
  ⟨Cert.Kernel.Gen.facts, Cert.KernelIdeal.Gen.facts, Cert.ReferenceIdeal.Gen.facts, frame_k, frame_ki, frame_r, trivial, value⟩

end Cert.Proof

end
